-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x16384 : Shape := ⟨3, ![1, 128, 16384]⟩
abbrev S13312x8192 : Shape := ⟨2, ![13312, 8192]⟩
abbrev S13312x256 : Shape := ⟨2, ![13312, 256]⟩
abbrev S13312 : Shape := ⟨1, ![13312]⟩
abbrev S_ : Shape := ⟨0, ![]⟩
abbrev S16x16384 : Shape := ⟨2, ![16, 16384]⟩
abbrev S13312x16 : Shape := ⟨2, ![13312, 16]⟩
abbrev S1 : Shape := ⟨1, ![1]⟩
abbrev S128x16384 : Shape := ⟨2, ![128, 16384]⟩
abbrev S1x13312 : Shape := ⟨2, ![1, 13312]⟩
abbrev S16x13312 : Shape := ⟨2, ![16, 13312]⟩
abbrev S128x13312 : Shape := ⟨2, ![128, 13312]⟩
abbrev S512x8192 : Shape := ⟨2, ![512, 8192]⟩
abbrev S512x256 : Shape := ⟨2, ![512, 256]⟩
abbrev S1x512 : Shape := ⟨2, ![1, 512]⟩
abbrev S16x512 : Shape := ⟨2, ![16, 512]⟩
abbrev S128x512 : Shape := ⟨2, ![128, 512]⟩
abbrev S128x16 : Shape := ⟨2, ![128, 16]⟩
abbrev S8x32x512 : Shape := ⟨3, ![8, 32, 512]⟩
abbrev S2048x512 : Shape := ⟨2, ![2048, 512]⟩
abbrev S256x256 : Shape := ⟨2, ![256, 256]⟩
abbrev S128x256 : Shape := ⟨2, ![128, 256]⟩
abbrev S128x128 : Shape := ⟨2, ![128, 128]⟩
abbrev S1x128 : Shape := ⟨2, ![1, 128]⟩
abbrev S4x32x128 : Shape := ⟨3, ![4, 32, 128]⟩
abbrev S32x128 : Shape := ⟨2, ![32, 128]⟩
abbrev S1x1x128 : Shape := ⟨3, ![1, 1, 128]⟩
abbrev S16x128 : Shape := ⟨2, ![16, 128]⟩
abbrev S8x128 : Shape := ⟨2, ![8, 128]⟩
abbrev S32x128x1 : Shape := ⟨3, ![32, 128, 1]⟩
abbrev S128x2048 : Shape := ⟨2, ![128, 2048]⟩
abbrev S1x128x13312 : Shape := ⟨3, ![1, 128, 13312]⟩

abbrev nBuf : Space → Nat
  | .hbm => 13
  | .vmem => 17
  | .smem => 1
  | _ => 0

abbrev bufTy : (tb : Table) → Fin (tcTables nBuf tb) → BufTy
  | .hbm, ⟨0, _⟩ => ⟨S1x128x16384, .bf16⟩
  | .hbm, ⟨1, _⟩ => ⟨S13312x8192, .i8⟩
  | .hbm, ⟨2, _⟩ => ⟨S13312x256, .i8⟩
  | .hbm, ⟨3, _⟩ => ⟨S13312, .f32⟩
  | .hbm, ⟨4, _⟩ => ⟨S_, .f32⟩
  | .hbm, ⟨5, _⟩ => ⟨S16x16384, .bf16⟩
  | .hbm, ⟨6, _⟩ => ⟨S13312x16, .bf16⟩
  | .hbm, ⟨7, _⟩ => ⟨S1, .f32⟩
  | .hbm, ⟨8, _⟩ => ⟨S128x16384, .bf16⟩
  | .hbm, ⟨9, _⟩ => ⟨S1x13312, .f32⟩
  | .hbm, ⟨10, _⟩ => ⟨S16x13312, .bf16⟩
  | .hbm, ⟨11, _⟩ => ⟨S128x13312, .bf16⟩
  | .hbm, ⟨12, _⟩ => ⟨S1x128x13312, .bf16⟩
  | .local _ .vmem, ⟨0, _⟩ => ⟨S128x16384, .bf16⟩
  | .local _ .vmem, ⟨1, _⟩ => ⟨S512x8192, .i8⟩
  | .local _ .vmem, ⟨2, _⟩ => ⟨S512x8192, .i8⟩
  | .local _ .vmem, ⟨3, _⟩ => ⟨S512x256, .i8⟩
  | .local _ .vmem, ⟨4, _⟩ => ⟨S512x256, .i8⟩
  | .local _ .vmem, ⟨5, _⟩ => ⟨S1x512, .f32⟩
  | .local _ .vmem, ⟨6, _⟩ => ⟨S1x512, .f32⟩
  | .local _ .vmem, ⟨7, _⟩ => ⟨S16x16384, .bf16⟩
  | .local _ .vmem, ⟨8, _⟩ => ⟨S16x512, .bf16⟩
  | .local _ .vmem, ⟨9, _⟩ => ⟨S16x512, .bf16⟩
  | .local _ .vmem, ⟨10, _⟩ => ⟨S128x512, .bf16⟩
  | .local _ .vmem, ⟨11, _⟩ => ⟨S128x512, .bf16⟩
  | .local _ .vmem, ⟨12, _⟩ => ⟨S128x16384, .bf16⟩
  | .local _ .vmem, ⟨13, _⟩ => ⟨S128x16, .bf16⟩
  | .local _ .vmem, ⟨14, _⟩ => ⟨S8x32x512, .f32⟩
  | .local _ .vmem, ⟨15, _⟩ => ⟨S2048x512, .bf16⟩
  | .local _ .vmem, ⟨16, _⟩ => ⟨S128x512, .f32⟩
  | .local _ .smem, ⟨0, _⟩ => ⟨S1, .f32⟩
  | _, _ => ⟨S1x128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![26], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_145 : BitVec 32 := 0#32
  let c64_i32_146 : BitVec 32 := 64#32
  let v458 : BitVec 32 := Scalar.addi c0_i32_145 c64_i32_146
  let c1_i32_147 : BitVec 32 := 1#32
  ⟨c0_i32_145, v458, c1_i32_147⟩
def k0_mult1 (k0_t1 : Fin k0_t1_loop.trips) : BitVec 32 :=
  let c0_i32_145 : BitVec 32 := 0#32
  let c1_i32_147 : BitVec 32 := 1#32
  let arg14 : BitVec 32 := Scf.iv c0_i32_145 c1_i32_147 k0_t1
  let c256_i32 : BitVec 32 := 256#32
  let v469 : BitVec 32 := Scalar.muli arg14 c256_i32
  v469
def k0_off1 (k0_t1 : Fin k0_t1_loop.trips) : Fin 2 → Nat :=
  let c0_157 : Index := 0#32
  let c0_i32_145 : BitVec 32 := 0#32
  let c1_i32_147 : BitVec 32 := 1#32
  let arg14 : BitVec 32 := Scf.iv c0_i32_145 c1_i32_147 k0_t1
  let c256_i32 : BitVec 32 := 256#32
  let v469 : BitVec 32 := Scalar.muli arg14 c256_i32
  let v470 : BitVec 32 := v469
  let v471 : Index := Scalar.indexCast v470
  ![0, v471.toNat]
@[reducible] def k0_t2_loop : Scf.Loop 32 :=
  let c0_i32_82 : BitVec 32 := 0#32
  let c8_i32_83 : BitVec 32 := 8#32
  let v274 : BitVec 32 := Scalar.addi c0_i32_82 c8_i32_83
  let c1_i32_84 : BitVec 32 := 1#32
  ⟨c0_i32_82, v274, c1_i32_84⟩
def k0_mult2 (k0_t2 : Fin k0_t2_loop.trips) : BitVec 32 :=
  let c0_i32_82 : BitVec 32 := 0#32
  let c1_i32_84 : BitVec 32 := 1#32
  let arg14 : BitVec 32 := Scf.iv c0_i32_82 c1_i32_84 k0_t2
  let c1024_i32 : BitVec 32 := 1024#32
  let v278 : BitVec 32 := Scalar.muli arg14 c1024_i32
  let c0_i32_90 : BitVec 32 := 0#32
  let v279 : BitVec 32 := Scalar.addi v278 c0_i32_90
  v279
def k0_off2 (k0_t2 : Fin k0_t2_loop.trips) (c0_i32_90 : BitVec 32) : Fin 2 → Nat :=
  let c0_91 : Index := 0#32
  let c0_i32_82 : BitVec 32 := 0#32
  let c1_i32_84 : BitVec 32 := 1#32
  let arg14 : BitVec 32 := Scf.iv c0_i32_82 c1_i32_84 k0_t2
  let c1024_i32 : BitVec 32 := 1024#32
  let v278 : BitVec 32 := Scalar.muli arg14 c1024_i32
  let v279 : BitVec 32 := Scalar.addi v278 c0_i32_90
  let v280 : BitVec 32 := v279
  let v281 : Index := Scalar.indexCast v280
  ![0, v281.toNat]
def k0_off3 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v285 : Index := Scalar.indexCast arg14
  let c0_92 : Index := 0#32
  let c0_93 : Index := 0#32
  ![v285.toNat, 0, 0]
def k0_off4 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v370 : Index := Scalar.indexCast arg14
  let c1 : Index := 1#32
  let c0_108 : Index := 0#32
  ![v370.toNat, 1, 0]
def k0_off5 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v455 : Index := Scalar.indexCast arg14
  let c2 : Index := 2#32
  let c0_124 : Index := 0#32
  ![v455.toNat, 2, 0]
def k0_off6 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v540 : Index := Scalar.indexCast arg14
  let c3 : Index := 3#32
  let c0_141 : Index := 0#32
  ![v540.toNat, 3, 0]
def k0_off7 (k0_t2 : Fin k0_t2_loop.trips) (c0_i32_90 : BitVec 32) : Fin 2 → Nat :=
  let c128_157 : Index := 128#32
  let c0_i32_82 : BitVec 32 := 0#32
  let c1_i32_84 : BitVec 32 := 1#32
  let arg14 : BitVec 32 := Scf.iv c0_i32_82 c1_i32_84 k0_t2
  let c1024_i32 : BitVec 32 := 1024#32
  let v278 : BitVec 32 := Scalar.muli arg14 c1024_i32
  let v279 : BitVec 32 := Scalar.addi v278 c0_i32_90
  let v280 : BitVec 32 := v279
  let v625 : Index := Scalar.indexCast v280
  ![128, v625.toNat]
def k0_off8 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v629 : Index := Scalar.indexCast arg14
  let c0_158 : Index := 0#32
  let c128_159 : Index := 128#32
  ![v629.toNat, 0, 128]
def k0_off9 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v714 : Index := Scalar.indexCast arg14
  let c1_179 : Index := 1#32
  let c128_180 : Index := 128#32
  ![v714.toNat, 1, 128]
def k0_off10 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v799 : Index := Scalar.indexCast arg14
  let c2_200 : Index := 2#32
  let c128_201 : Index := 128#32
  ![v799.toNat, 2, 128]
def k0_off11 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v884 : Index := Scalar.indexCast arg14
  let c3_221 : Index := 3#32
  let c128_222 : Index := 128#32
  ![v884.toNat, 3, 128]
def k0_off12 (k0_t2 : Fin k0_t2_loop.trips) (c0_i32_90 : BitVec 32) : Fin 2 → Nat :=
  let c256_242 : Index := 256#32
  let c0_i32_82 : BitVec 32 := 0#32
  let c1_i32_84 : BitVec 32 := 1#32
  let arg14 : BitVec 32 := Scf.iv c0_i32_82 c1_i32_84 k0_t2
  let c1024_i32 : BitVec 32 := 1024#32
  let v278 : BitVec 32 := Scalar.muli arg14 c1024_i32
  let v279 : BitVec 32 := Scalar.addi v278 c0_i32_90
  let v280 : BitVec 32 := v279
  let v969 : Index := Scalar.indexCast v280
  ![256, v969.toNat]
def k0_off13 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v973 : Index := Scalar.indexCast arg14
  let c0_243 : Index := 0#32
  let c256_244 : Index := 256#32
  ![v973.toNat, 0, 256]
def k0_off14 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v1058 : Index := Scalar.indexCast arg14
  let c1_264 : Index := 1#32
  let c256_265 : Index := 256#32
  ![v1058.toNat, 1, 256]
def k0_off15 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v1143 : Index := Scalar.indexCast arg14
  let c2_285 : Index := 2#32
  let c256_286 : Index := 256#32
  ![v1143.toNat, 2, 256]
def k0_off16 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v1228 : Index := Scalar.indexCast arg14
  let c3_306 : Index := 3#32
  let c256_307 : Index := 256#32
  ![v1228.toNat, 3, 256]
def k0_off17 (k0_t2 : Fin k0_t2_loop.trips) (c0_i32_90 : BitVec 32) : Fin 2 → Nat :=
  let c384_327 : Index := 384#32
  let c0_i32_82 : BitVec 32 := 0#32
  let c1_i32_84 : BitVec 32 := 1#32
  let arg14 : BitVec 32 := Scf.iv c0_i32_82 c1_i32_84 k0_t2
  let c1024_i32 : BitVec 32 := 1024#32
  let v278 : BitVec 32 := Scalar.muli arg14 c1024_i32
  let v279 : BitVec 32 := Scalar.addi v278 c0_i32_90
  let v280 : BitVec 32 := v279
  let v1313 : Index := Scalar.indexCast v280
  ![384, v1313.toNat]
def k0_off18 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v1317 : Index := Scalar.indexCast arg14
  let c0_328 : Index := 0#32
  let c384_329 : Index := 384#32
  ![v1317.toNat, 0, 384]
def k0_off19 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v1402 : Index := Scalar.indexCast arg14
  let c1_349 : Index := 1#32
  let c384_350 : Index := 384#32
  ![v1402.toNat, 1, 384]
def k0_off20 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v1487 : Index := Scalar.indexCast arg14
  let c2_370 : Index := 2#32
  let c384_371 : Index := 384#32
  ![v1487.toNat, 2, 384]
def k0_off21 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v1572 : Index := Scalar.indexCast arg14
  let c3_391 : Index := 3#32
  let c384_392 : Index := 384#32
  ![v1572.toNat, 3, 384]
def k0_mult3 (k0_t2 : Fin k0_t2_loop.trips) : BitVec 32 :=
  let c0_i32_82 : BitVec 32 := 0#32
  let c1_i32_84 : BitVec 32 := 1#32
  let arg14 : BitVec 32 := Scf.iv c0_i32_82 c1_i32_84 k0_t2
  let c1024_i32_412 : BitVec 32 := 1024#32
  let v1657 : BitVec 32 := Scalar.muli arg14 c1024_i32_412
  let c128_i32_413 : BitVec 32 := 128#32
  let v1658 : BitVec 32 := Scalar.addi v1657 c128_i32_413
  v1658
def k0_off22 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v1664 : Index := Scalar.indexCast arg14
  let c4_415 : Index := 4#32
  let c0_416 : Index := 0#32
  ![v1664.toNat, 4, 0]
def k0_off23 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v1749 : Index := Scalar.indexCast arg14
  let c5 : Index := 5#32
  let c0_433 : Index := 0#32
  ![v1749.toNat, 5, 0]
def k0_off24 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v1834 : Index := Scalar.indexCast arg14
  let c6 : Index := 6#32
  let c0_449 : Index := 0#32
  ![v1834.toNat, 6, 0]
def k0_off25 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v1919 : Index := Scalar.indexCast arg14
  let c7 : Index := 7#32
  let c0_466 : Index := 0#32
  ![v1919.toNat, 7, 0]
def k0_off26 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v2008 : Index := Scalar.indexCast arg14
  let c4_483 : Index := 4#32
  let c128_484 : Index := 128#32
  ![v2008.toNat, 4, 128]
def k0_off27 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v2093 : Index := Scalar.indexCast arg14
  let c5_504 : Index := 5#32
  let c128_505 : Index := 128#32
  ![v2093.toNat, 5, 128]
def k0_off28 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v2178 : Index := Scalar.indexCast arg14
  let c6_525 : Index := 6#32
  let c128_526 : Index := 128#32
  ![v2178.toNat, 6, 128]
def k0_off29 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v2263 : Index := Scalar.indexCast arg14
  let c7_546 : Index := 7#32
  let c128_547 : Index := 128#32
  ![v2263.toNat, 7, 128]
def k0_off30 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v2352 : Index := Scalar.indexCast arg14
  let c4_568 : Index := 4#32
  let c256_569 : Index := 256#32
  ![v2352.toNat, 4, 256]
def k0_off31 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v2437 : Index := Scalar.indexCast arg14
  let c5_589 : Index := 5#32
  let c256_590 : Index := 256#32
  ![v2437.toNat, 5, 256]
def k0_off32 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v2522 : Index := Scalar.indexCast arg14
  let c6_610 : Index := 6#32
  let c256_611 : Index := 256#32
  ![v2522.toNat, 6, 256]
def k0_off33 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v2607 : Index := Scalar.indexCast arg14
  let c7_631 : Index := 7#32
  let c256_632 : Index := 256#32
  ![v2607.toNat, 7, 256]
def k0_off34 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v2696 : Index := Scalar.indexCast arg14
  let c4_653 : Index := 4#32
  let c384_654 : Index := 384#32
  ![v2696.toNat, 4, 384]
def k0_off35 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v2781 : Index := Scalar.indexCast arg14
  let c5_674 : Index := 5#32
  let c384_675 : Index := 384#32
  ![v2781.toNat, 5, 384]
def k0_off36 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v2866 : Index := Scalar.indexCast arg14
  let c6_695 : Index := 6#32
  let c384_696 : Index := 384#32
  ![v2866.toNat, 6, 384]
def k0_off37 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v2951 : Index := Scalar.indexCast arg14
  let c7_716 : Index := 7#32
  let c384_717 : Index := 384#32
  ![v2951.toNat, 7, 384]
def k0_mult4 (k0_t2 : Fin k0_t2_loop.trips) : BitVec 32 :=
  let c0_i32_82 : BitVec 32 := 0#32
  let c1_i32_84 : BitVec 32 := 1#32
  let arg14 : BitVec 32 := Scf.iv c0_i32_82 c1_i32_84 k0_t2
  let c1024_i32_737 : BitVec 32 := 1024#32
  let v3036 : BitVec 32 := Scalar.muli arg14 c1024_i32_737
  let c256_i32 : BitVec 32 := 256#32
  let v3037 : BitVec 32 := Scalar.addi v3036 c256_i32
  v3037
def k0_off38 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v3043 : Index := Scalar.indexCast arg14
  let c8 : Index := 8#32
  let c0_739 : Index := 0#32
  ![v3043.toNat, 8, 0]
def k0_off39 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v3128 : Index := Scalar.indexCast arg14
  let c9 : Index := 9#32
  let c0_755 : Index := 0#32
  ![v3128.toNat, 9, 0]
def k0_off40 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v3213 : Index := Scalar.indexCast arg14
  let c10 : Index := 10#32
  let c0_771 : Index := 0#32
  ![v3213.toNat, 10, 0]
def k0_off41 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v3298 : Index := Scalar.indexCast arg14
  let c11 : Index := 11#32
  let c0_787 : Index := 0#32
  ![v3298.toNat, 11, 0]
def k0_off42 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v3387 : Index := Scalar.indexCast arg14
  let c8_804 : Index := 8#32
  let c128_805 : Index := 128#32
  ![v3387.toNat, 8, 128]
def k0_off43 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v3472 : Index := Scalar.indexCast arg14
  let c9_825 : Index := 9#32
  let c128_826 : Index := 128#32
  ![v3472.toNat, 9, 128]
def k0_off44 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v3557 : Index := Scalar.indexCast arg14
  let c10_846 : Index := 10#32
  let c128_847 : Index := 128#32
  ![v3557.toNat, 10, 128]
def k0_off45 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v3642 : Index := Scalar.indexCast arg14
  let c11_867 : Index := 11#32
  let c128_868 : Index := 128#32
  ![v3642.toNat, 11, 128]
def k0_off46 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v3731 : Index := Scalar.indexCast arg14
  let c8_889 : Index := 8#32
  let c256_890 : Index := 256#32
  ![v3731.toNat, 8, 256]
def k0_off47 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v3816 : Index := Scalar.indexCast arg14
  let c9_910 : Index := 9#32
  let c256_911 : Index := 256#32
  ![v3816.toNat, 9, 256]
def k0_off48 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v3901 : Index := Scalar.indexCast arg14
  let c10_931 : Index := 10#32
  let c256_932 : Index := 256#32
  ![v3901.toNat, 10, 256]
def k0_off49 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v3986 : Index := Scalar.indexCast arg14
  let c11_952 : Index := 11#32
  let c256_953 : Index := 256#32
  ![v3986.toNat, 11, 256]
def k0_off50 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v4075 : Index := Scalar.indexCast arg14
  let c8_974 : Index := 8#32
  let c384_975 : Index := 384#32
  ![v4075.toNat, 8, 384]
def k0_off51 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v4160 : Index := Scalar.indexCast arg14
  let c9_995 : Index := 9#32
  let c384_996 : Index := 384#32
  ![v4160.toNat, 9, 384]
def k0_off52 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v4245 : Index := Scalar.indexCast arg14
  let c10_1016 : Index := 10#32
  let c384_1017 : Index := 384#32
  ![v4245.toNat, 10, 384]
def k0_off53 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v4330 : Index := Scalar.indexCast arg14
  let c11_1037 : Index := 11#32
  let c384_1038 : Index := 384#32
  ![v4330.toNat, 11, 384]
def k0_mult5 (k0_t2 : Fin k0_t2_loop.trips) : BitVec 32 :=
  let c0_i32_82 : BitVec 32 := 0#32
  let c1_i32_84 : BitVec 32 := 1#32
  let arg14 : BitVec 32 := Scf.iv c0_i32_82 c1_i32_84 k0_t2
  let c1024_i32_1058 : BitVec 32 := 1024#32
  let v4415 : BitVec 32 := Scalar.muli arg14 c1024_i32_1058
  let c384_i32 : BitVec 32 := 384#32
  let v4416 : BitVec 32 := Scalar.addi v4415 c384_i32
  v4416
def k0_off54 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v4422 : Index := Scalar.indexCast arg14
  let c12 : Index := 12#32
  let c0_1060 : Index := 0#32
  ![v4422.toNat, 12, 0]
def k0_off55 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v4507 : Index := Scalar.indexCast arg14
  let c13 : Index := 13#32
  let c0_1076 : Index := 0#32
  ![v4507.toNat, 13, 0]
def k0_off56 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v4592 : Index := Scalar.indexCast arg14
  let c14 : Index := 14#32
  let c0_1092 : Index := 0#32
  ![v4592.toNat, 14, 0]
def k0_off57 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v4677 : Index := Scalar.indexCast arg14
  let c15 : Index := 15#32
  let c0_1108 : Index := 0#32
  ![v4677.toNat, 15, 0]
def k0_off58 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v4766 : Index := Scalar.indexCast arg14
  let c12_1125 : Index := 12#32
  let c128_1126 : Index := 128#32
  ![v4766.toNat, 12, 128]
def k0_off59 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v4851 : Index := Scalar.indexCast arg14
  let c13_1146 : Index := 13#32
  let c128_1147 : Index := 128#32
  ![v4851.toNat, 13, 128]
def k0_off60 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v4936 : Index := Scalar.indexCast arg14
  let c14_1167 : Index := 14#32
  let c128_1168 : Index := 128#32
  ![v4936.toNat, 14, 128]
def k0_off61 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v5021 : Index := Scalar.indexCast arg14
  let c15_1188 : Index := 15#32
  let c128_1189 : Index := 128#32
  ![v5021.toNat, 15, 128]
def k0_off62 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v5110 : Index := Scalar.indexCast arg14
  let c12_1210 : Index := 12#32
  let c256_1211 : Index := 256#32
  ![v5110.toNat, 12, 256]
def k0_off63 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v5195 : Index := Scalar.indexCast arg14
  let c13_1231 : Index := 13#32
  let c256_1232 : Index := 256#32
  ![v5195.toNat, 13, 256]
def k0_off64 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v5280 : Index := Scalar.indexCast arg14
  let c14_1252 : Index := 14#32
  let c256_1253 : Index := 256#32
  ![v5280.toNat, 14, 256]
def k0_off65 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v5365 : Index := Scalar.indexCast arg14
  let c15_1273 : Index := 15#32
  let c256_1274 : Index := 256#32
  ![v5365.toNat, 15, 256]
def k0_off66 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v5454 : Index := Scalar.indexCast arg14
  let c12_1295 : Index := 12#32
  let c384_1296 : Index := 384#32
  ![v5454.toNat, 12, 384]
def k0_off67 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v5539 : Index := Scalar.indexCast arg14
  let c13_1316 : Index := 13#32
  let c384_1317 : Index := 384#32
  ![v5539.toNat, 13, 384]
def k0_off68 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v5624 : Index := Scalar.indexCast arg14
  let c14_1337 : Index := 14#32
  let c384_1338 : Index := 384#32
  ![v5624.toNat, 14, 384]
def k0_off69 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v5709 : Index := Scalar.indexCast arg14
  let c15_1358 : Index := 15#32
  let c384_1359 : Index := 384#32
  ![v5709.toNat, 15, 384]
def k0_mult6 (k0_t2 : Fin k0_t2_loop.trips) : BitVec 32 :=
  let c0_i32_82 : BitVec 32 := 0#32
  let c1_i32_84 : BitVec 32 := 1#32
  let arg14 : BitVec 32 := Scf.iv c0_i32_82 c1_i32_84 k0_t2
  let c1024_i32_1379 : BitVec 32 := 1024#32
  let v5794 : BitVec 32 := Scalar.muli arg14 c1024_i32_1379
  let c512_i32 : BitVec 32 := 512#32
  let v5795 : BitVec 32 := Scalar.addi v5794 c512_i32
  v5795
def k0_off70 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v5801 : Index := Scalar.indexCast arg14
  let c16_1381 : Index := 16#32
  let c0_1382 : Index := 0#32
  ![v5801.toNat, 16, 0]
def k0_off71 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v5886 : Index := Scalar.indexCast arg14
  let c17 : Index := 17#32
  let c0_1398 : Index := 0#32
  ![v5886.toNat, 17, 0]
def k0_off72 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v5971 : Index := Scalar.indexCast arg14
  let c18 : Index := 18#32
  let c0_1414 : Index := 0#32
  ![v5971.toNat, 18, 0]
def k0_off73 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v6056 : Index := Scalar.indexCast arg14
  let c19 : Index := 19#32
  let c0_1430 : Index := 0#32
  ![v6056.toNat, 19, 0]
def k0_off74 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v6145 : Index := Scalar.indexCast arg14
  let c16_1447 : Index := 16#32
  let c128_1448 : Index := 128#32
  ![v6145.toNat, 16, 128]
def k0_off75 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v6230 : Index := Scalar.indexCast arg14
  let c17_1468 : Index := 17#32
  let c128_1469 : Index := 128#32
  ![v6230.toNat, 17, 128]
def k0_off76 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v6315 : Index := Scalar.indexCast arg14
  let c18_1489 : Index := 18#32
  let c128_1490 : Index := 128#32
  ![v6315.toNat, 18, 128]
def k0_off77 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v6400 : Index := Scalar.indexCast arg14
  let c19_1510 : Index := 19#32
  let c128_1511 : Index := 128#32
  ![v6400.toNat, 19, 128]
def k0_off78 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v6489 : Index := Scalar.indexCast arg14
  let c16_1532 : Index := 16#32
  let c256_1533 : Index := 256#32
  ![v6489.toNat, 16, 256]
def k0_off79 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v6574 : Index := Scalar.indexCast arg14
  let c17_1553 : Index := 17#32
  let c256_1554 : Index := 256#32
  ![v6574.toNat, 17, 256]
def k0_off80 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v6659 : Index := Scalar.indexCast arg14
  let c18_1574 : Index := 18#32
  let c256_1575 : Index := 256#32
  ![v6659.toNat, 18, 256]
def k0_off81 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v6744 : Index := Scalar.indexCast arg14
  let c19_1595 : Index := 19#32
  let c256_1596 : Index := 256#32
  ![v6744.toNat, 19, 256]
def k0_off82 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v6833 : Index := Scalar.indexCast arg14
  let c16_1617 : Index := 16#32
  let c384_1618 : Index := 384#32
  ![v6833.toNat, 16, 384]
def k0_off83 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v6918 : Index := Scalar.indexCast arg14
  let c17_1638 : Index := 17#32
  let c384_1639 : Index := 384#32
  ![v6918.toNat, 17, 384]
def k0_off84 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v7003 : Index := Scalar.indexCast arg14
  let c18_1659 : Index := 18#32
  let c384_1660 : Index := 384#32
  ![v7003.toNat, 18, 384]
def k0_off85 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v7088 : Index := Scalar.indexCast arg14
  let c19_1680 : Index := 19#32
  let c384_1681 : Index := 384#32
  ![v7088.toNat, 19, 384]
def k0_mult7 (k0_t2 : Fin k0_t2_loop.trips) : BitVec 32 :=
  let c0_i32_82 : BitVec 32 := 0#32
  let c1_i32_84 : BitVec 32 := 1#32
  let arg14 : BitVec 32 := Scf.iv c0_i32_82 c1_i32_84 k0_t2
  let c1024_i32_1701 : BitVec 32 := 1024#32
  let v7173 : BitVec 32 := Scalar.muli arg14 c1024_i32_1701
  let c640_i32 : BitVec 32 := 640#32
  let v7174 : BitVec 32 := Scalar.addi v7173 c640_i32
  v7174
def k0_off86 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v7180 : Index := Scalar.indexCast arg14
  let c20 : Index := 20#32
  let c0_1703 : Index := 0#32
  ![v7180.toNat, 20, 0]
def k0_off87 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v7265 : Index := Scalar.indexCast arg14
  let c21 : Index := 21#32
  let c0_1719 : Index := 0#32
  ![v7265.toNat, 21, 0]
def k0_off88 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v7350 : Index := Scalar.indexCast arg14
  let c22 : Index := 22#32
  let c0_1735 : Index := 0#32
  ![v7350.toNat, 22, 0]
def k0_off89 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v7435 : Index := Scalar.indexCast arg14
  let c23 : Index := 23#32
  let c0_1751 : Index := 0#32
  ![v7435.toNat, 23, 0]
def k0_off90 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v7524 : Index := Scalar.indexCast arg14
  let c20_1768 : Index := 20#32
  let c128_1769 : Index := 128#32
  ![v7524.toNat, 20, 128]
def k0_off91 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v7609 : Index := Scalar.indexCast arg14
  let c21_1789 : Index := 21#32
  let c128_1790 : Index := 128#32
  ![v7609.toNat, 21, 128]
def k0_off92 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v7694 : Index := Scalar.indexCast arg14
  let c22_1810 : Index := 22#32
  let c128_1811 : Index := 128#32
  ![v7694.toNat, 22, 128]
def k0_off93 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v7779 : Index := Scalar.indexCast arg14
  let c23_1831 : Index := 23#32
  let c128_1832 : Index := 128#32
  ![v7779.toNat, 23, 128]
def k0_off94 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v7868 : Index := Scalar.indexCast arg14
  let c20_1853 : Index := 20#32
  let c256_1854 : Index := 256#32
  ![v7868.toNat, 20, 256]
def k0_off95 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v7953 : Index := Scalar.indexCast arg14
  let c21_1874 : Index := 21#32
  let c256_1875 : Index := 256#32
  ![v7953.toNat, 21, 256]
def k0_off96 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v8038 : Index := Scalar.indexCast arg14
  let c22_1895 : Index := 22#32
  let c256_1896 : Index := 256#32
  ![v8038.toNat, 22, 256]
def k0_off97 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v8123 : Index := Scalar.indexCast arg14
  let c23_1916 : Index := 23#32
  let c256_1917 : Index := 256#32
  ![v8123.toNat, 23, 256]
def k0_off98 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v8212 : Index := Scalar.indexCast arg14
  let c20_1938 : Index := 20#32
  let c384_1939 : Index := 384#32
  ![v8212.toNat, 20, 384]
def k0_off99 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v8297 : Index := Scalar.indexCast arg14
  let c21_1959 : Index := 21#32
  let c384_1960 : Index := 384#32
  ![v8297.toNat, 21, 384]
def k0_off100 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v8382 : Index := Scalar.indexCast arg14
  let c22_1980 : Index := 22#32
  let c384_1981 : Index := 384#32
  ![v8382.toNat, 22, 384]
def k0_off101 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v8467 : Index := Scalar.indexCast arg14
  let c23_2001 : Index := 23#32
  let c384_2002 : Index := 384#32
  ![v8467.toNat, 23, 384]
def k0_mult8 (k0_t2 : Fin k0_t2_loop.trips) : BitVec 32 :=
  let c0_i32_82 : BitVec 32 := 0#32
  let c1_i32_84 : BitVec 32 := 1#32
  let arg14 : BitVec 32 := Scf.iv c0_i32_82 c1_i32_84 k0_t2
  let c1024_i32_2022 : BitVec 32 := 1024#32
  let v8552 : BitVec 32 := Scalar.muli arg14 c1024_i32_2022
  let c768_i32 : BitVec 32 := 768#32
  let v8553 : BitVec 32 := Scalar.addi v8552 c768_i32
  v8553
def k0_off102 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v8559 : Index := Scalar.indexCast arg14
  let c24 : Index := 24#32
  let c0_2024 : Index := 0#32
  ![v8559.toNat, 24, 0]
def k0_off103 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v8644 : Index := Scalar.indexCast arg14
  let c25 : Index := 25#32
  let c0_2040 : Index := 0#32
  ![v8644.toNat, 25, 0]
def k0_off104 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v8729 : Index := Scalar.indexCast arg14
  let c26 : Index := 26#32
  let c0_2056 : Index := 0#32
  ![v8729.toNat, 26, 0]
def k0_off105 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v8814 : Index := Scalar.indexCast arg14
  let c27 : Index := 27#32
  let c0_2072 : Index := 0#32
  ![v8814.toNat, 27, 0]
def k0_off106 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v8903 : Index := Scalar.indexCast arg14
  let c24_2089 : Index := 24#32
  let c128_2090 : Index := 128#32
  ![v8903.toNat, 24, 128]
def k0_off107 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v8988 : Index := Scalar.indexCast arg14
  let c25_2110 : Index := 25#32
  let c128_2111 : Index := 128#32
  ![v8988.toNat, 25, 128]
def k0_off108 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v9073 : Index := Scalar.indexCast arg14
  let c26_2131 : Index := 26#32
  let c128_2132 : Index := 128#32
  ![v9073.toNat, 26, 128]
def k0_off109 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v9158 : Index := Scalar.indexCast arg14
  let c27_2152 : Index := 27#32
  let c128_2153 : Index := 128#32
  ![v9158.toNat, 27, 128]
def k0_off110 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v9247 : Index := Scalar.indexCast arg14
  let c24_2174 : Index := 24#32
  let c256_2175 : Index := 256#32
  ![v9247.toNat, 24, 256]
def k0_off111 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v9332 : Index := Scalar.indexCast arg14
  let c25_2195 : Index := 25#32
  let c256_2196 : Index := 256#32
  ![v9332.toNat, 25, 256]
def k0_off112 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v9417 : Index := Scalar.indexCast arg14
  let c26_2216 : Index := 26#32
  let c256_2217 : Index := 256#32
  ![v9417.toNat, 26, 256]
def k0_off113 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v9502 : Index := Scalar.indexCast arg14
  let c27_2237 : Index := 27#32
  let c256_2238 : Index := 256#32
  ![v9502.toNat, 27, 256]
def k0_off114 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v9591 : Index := Scalar.indexCast arg14
  let c24_2259 : Index := 24#32
  let c384_2260 : Index := 384#32
  ![v9591.toNat, 24, 384]
def k0_off115 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v9676 : Index := Scalar.indexCast arg14
  let c25_2280 : Index := 25#32
  let c384_2281 : Index := 384#32
  ![v9676.toNat, 25, 384]
def k0_off116 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v9761 : Index := Scalar.indexCast arg14
  let c26_2301 : Index := 26#32
  let c384_2302 : Index := 384#32
  ![v9761.toNat, 26, 384]
def k0_off117 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v9846 : Index := Scalar.indexCast arg14
  let c27_2322 : Index := 27#32
  let c384_2323 : Index := 384#32
  ![v9846.toNat, 27, 384]
def k0_mult9 (k0_t2 : Fin k0_t2_loop.trips) : BitVec 32 :=
  let c0_i32_82 : BitVec 32 := 0#32
  let c1_i32_84 : BitVec 32 := 1#32
  let arg14 : BitVec 32 := Scf.iv c0_i32_82 c1_i32_84 k0_t2
  let c1024_i32_2343 : BitVec 32 := 1024#32
  let v9931 : BitVec 32 := Scalar.muli arg14 c1024_i32_2343
  let c896_i32 : BitVec 32 := 896#32
  let v9932 : BitVec 32 := Scalar.addi v9931 c896_i32
  v9932
def k0_off118 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v9938 : Index := Scalar.indexCast arg14
  let c28 : Index := 28#32
  let c0_2345 : Index := 0#32
  ![v9938.toNat, 28, 0]
def k0_off119 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v10023 : Index := Scalar.indexCast arg14
  let c29 : Index := 29#32
  let c0_2361 : Index := 0#32
  ![v10023.toNat, 29, 0]
def k0_off120 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v10108 : Index := Scalar.indexCast arg14
  let c30 : Index := 30#32
  let c0_2377 : Index := 0#32
  ![v10108.toNat, 30, 0]
def k0_off121 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v10193 : Index := Scalar.indexCast arg14
  let c31 : Index := 31#32
  let c0_2393 : Index := 0#32
  ![v10193.toNat, 31, 0]
def k0_off122 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v10282 : Index := Scalar.indexCast arg14
  let c28_2410 : Index := 28#32
  let c128_2411 : Index := 128#32
  ![v10282.toNat, 28, 128]
def k0_off123 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v10367 : Index := Scalar.indexCast arg14
  let c29_2431 : Index := 29#32
  let c128_2432 : Index := 128#32
  ![v10367.toNat, 29, 128]
def k0_off124 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v10452 : Index := Scalar.indexCast arg14
  let c30_2452 : Index := 30#32
  let c128_2453 : Index := 128#32
  ![v10452.toNat, 30, 128]
def k0_off125 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v10537 : Index := Scalar.indexCast arg14
  let c31_2473 : Index := 31#32
  let c128_2474 : Index := 128#32
  ![v10537.toNat, 31, 128]
def k0_off126 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v10626 : Index := Scalar.indexCast arg14
  let c28_2495 : Index := 28#32
  let c256_2496 : Index := 256#32
  ![v10626.toNat, 28, 256]
def k0_off127 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v10711 : Index := Scalar.indexCast arg14
  let c29_2516 : Index := 29#32
  let c256_2517 : Index := 256#32
  ![v10711.toNat, 29, 256]
def k0_off128 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v10796 : Index := Scalar.indexCast arg14
  let c30_2537 : Index := 30#32
  let c256_2538 : Index := 256#32
  ![v10796.toNat, 30, 256]
def k0_off129 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v10881 : Index := Scalar.indexCast arg14
  let c31_2558 : Index := 31#32
  let c256_2559 : Index := 256#32
  ![v10881.toNat, 31, 256]
def k0_off130 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v10970 : Index := Scalar.indexCast arg14
  let c28_2580 : Index := 28#32
  let c384_2581 : Index := 384#32
  ![v10970.toNat, 28, 384]
def k0_off131 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v11055 : Index := Scalar.indexCast arg14
  let c29_2601 : Index := 29#32
  let c384_2602 : Index := 384#32
  ![v11055.toNat, 29, 384]
def k0_off132 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v11140 : Index := Scalar.indexCast arg14
  let c30_2622 : Index := 30#32
  let c384_2623 : Index := 384#32
  ![v11140.toNat, 30, 384]
def k0_off133 (k0_t2 : Fin k0_t2_loop.trips) : Fin 3 → Nat :=
  let c0_i32_82 : BitVec 32 := 0#32
  let c1_i32_84 : BitVec 32 := 1#32
  let arg14 : BitVec 32 := Scf.iv c0_i32_82 c1_i32_84 k0_t2
  let v11225 : Index := Scalar.indexCast arg14
  let c31_2643 : Index := 31#32
  let c384_2644 : Index := 384#32
  ![v11225.toNat, 31, 384]
def k0_mult10 (k0_t2 : Fin k0_t2_loop.trips) : BitVec 32 :=
  let c0_i32_82 : BitVec 32 := 0#32
  let c1_i32_84 : BitVec 32 := 1#32
  let arg14 : BitVec 32 := Scf.iv c0_i32_82 c1_i32_84 k0_t2
  let c2048_i32 : BitVec 32 := 2048#32
  let v11310 : BitVec 32 := Scalar.muli arg14 c2048_i32
  v11310
def k0_off134 (k0_t2 : Fin k0_t2_loop.trips) : Fin 2 → Nat :=
  let c0_2664 : Index := 0#32
  let c0_i32_82 : BitVec 32 := 0#32
  let c1_i32_84 : BitVec 32 := 1#32
  let arg14 : BitVec 32 := Scf.iv c0_i32_82 c1_i32_84 k0_t2
  let c2048_i32 : BitVec 32 := 2048#32
  let v11310 : BitVec 32 := Scalar.muli arg14 c2048_i32
  let v11311 : BitVec 32 := v11310
  let v11312 : Index := Scalar.indexCast v11311
  ![0, v11312.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x8192 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x16384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1x128x16384 : Shape := ⟨3, ![1, 128, 16384]⟩
abbrev S13312x8192 : Shape := ⟨2, ![13312, 8192]⟩
abbrev S13312x256 : Shape := ⟨2, ![13312, 256]⟩
abbrev S13312 : Shape := ⟨1, ![13312]⟩
abbrev S_ : Shape := ⟨0, ![]⟩
abbrev S16x16384 : Shape := ⟨2, ![16, 16384]⟩
abbrev S13312x16 : Shape := ⟨2, ![13312, 16]⟩
abbrev S13312x1 : Shape := ⟨2, ![13312, 1]⟩
abbrev S13312x256x32 : Shape := ⟨3, ![13312, 256, 32]⟩
abbrev S13312x256x1 : Shape := ⟨3, ![13312, 256, 1]⟩
abbrev S1x128x8192 : Shape := ⟨3, ![1, 128, 8192]⟩
abbrev S1x128x13312 : Shape := ⟨3, ![1, 128, 13312]⟩
abbrev S1x128x16 : Shape := ⟨3, ![1, 128, 16]⟩

abbrev nBuf : Space → Nat
  | .hbm => 214
  | .vmem => 0
  | .smem => 0
  | _ => 0

abbrev hbmTy0_0 (i : Nat) : BufTy := match i % 128 with
  | 0 => ⟨S1x128x16384, .bf16⟩
  | 1 => ⟨S13312x8192, .i8⟩
  | 2 => ⟨S13312x256, .i8⟩
  | 3 => ⟨S13312, .f32⟩
  | 4 => ⟨S_, .f32⟩
  | 5 => ⟨S16x16384, .bf16⟩
  | 6 => ⟨S13312x16, .bf16⟩
  | 7 => ⟨S13312x256, .i32⟩
  | 8 => ⟨S13312x256, .f32⟩
  | 9 => ⟨S13312x1, .f32⟩
  | 10 => ⟨S13312x256, .f32⟩
  | 11 => ⟨S13312x256, .f32⟩
  | 12 => ⟨S13312x256, .f32⟩
  | 13 => ⟨S13312x256, .f32⟩
  | 14 => ⟨S13312x256, .bf16⟩
  | 15 => ⟨S13312x8192, .i32⟩
  | 16 => ⟨S_, .i32⟩
  | 17 => ⟨S13312x8192, .i32⟩
  | 18 => ⟨S13312x8192, .i32⟩
  | 19 => ⟨S_, .i32⟩
  | 20 => ⟨S13312x8192, .i32⟩
  | 21 => ⟨S13312x8192, .i32⟩
  | 22 => ⟨S_, .i32⟩
  | 23 => ⟨S13312x8192, .i32⟩
  | 24 => ⟨S13312x8192, .i32⟩
  | 25 => ⟨S_, .i32⟩
  | 26 => ⟨S13312x8192, .i32⟩
  | 27 => ⟨S13312x8192, .i32⟩
  | 28 => ⟨S_, .i32⟩
  | 29 => ⟨S13312x8192, .i32⟩
  | 30 => ⟨S13312x8192, .i32⟩
  | 31 => ⟨S_, .i32⟩
  | 32 => ⟨S13312x8192, .i32⟩
  | 33 => ⟨S13312x8192, .i1⟩
  | 34 => ⟨S_, .i32⟩
  | 35 => ⟨S13312x8192, .i32⟩
  | 36 => ⟨S13312x8192, .i32⟩
  | 37 => ⟨S_, .i32⟩
  | 38 => ⟨S13312x8192, .i32⟩
  | 39 => ⟨S13312x8192, .i32⟩
  | 40 => ⟨S_, .i32⟩
  | 41 => ⟨S13312x8192, .i32⟩
  | 42 => ⟨S13312x8192, .i1⟩
  | 43 => ⟨S_, .i32⟩
  | 44 => ⟨S13312x8192, .i32⟩
  | 45 => ⟨S13312x8192, .i32⟩
  | 46 => ⟨S_, .i32⟩
  | 47 => ⟨S13312x8192, .i32⟩
  | 48 => ⟨S13312x8192, .i32⟩
  | 49 => ⟨S_, .i32⟩
  | 50 => ⟨S13312x8192, .i32⟩
  | 51 => ⟨S13312x8192, .i1⟩
  | 52 => ⟨S_, .i32⟩
  | 53 => ⟨S13312x8192, .i32⟩
  | 54 => ⟨S13312x8192, .i32⟩
  | 55 => ⟨S_, .i32⟩
  | 56 => ⟨S13312x8192, .i32⟩
  | 57 => ⟨S13312x8192, .i32⟩
  | 58 => ⟨S_, .i32⟩
  | 59 => ⟨S13312x8192, .i32⟩
  | 60 => ⟨S13312x8192, .i1⟩
  | 61 => ⟨S_, .bf16⟩
  | 62 => ⟨S_, .bf16⟩
  | 63 => ⟨S13312x8192, .bf16⟩
  | 64 => ⟨S13312x8192, .bf16⟩
  | 65 => ⟨S13312x8192, .bf16⟩
  | 66 => ⟨S_, .bf16⟩
  | 67 => ⟨S_, .bf16⟩
  | 68 => ⟨S13312x8192, .bf16⟩
  | 69 => ⟨S13312x8192, .bf16⟩
  | 70 => ⟨S13312x8192, .bf16⟩
  | 71 => ⟨S13312x8192, .bf16⟩
  | 72 => ⟨S_, .bf16⟩
  | 73 => ⟨S_, .bf16⟩
  | 74 => ⟨S13312x8192, .bf16⟩
  | 75 => ⟨S13312x8192, .bf16⟩
  | 76 => ⟨S13312x8192, .bf16⟩
  | 77 => ⟨S_, .bf16⟩
  | 78 => ⟨S_, .bf16⟩
  | 79 => ⟨S13312x8192, .bf16⟩
  | 80 => ⟨S13312x8192, .bf16⟩
  | 81 => ⟨S13312x8192, .bf16⟩
  | 82 => ⟨S13312x8192, .bf16⟩
  | 83 => ⟨S13312x8192, .bf16⟩
  | 84 => ⟨S_, .bf16⟩
  | 85 => ⟨S_, .bf16⟩
  | 86 => ⟨S13312x8192, .bf16⟩
  | 87 => ⟨S13312x8192, .bf16⟩
  | 88 => ⟨S13312x8192, .bf16⟩
  | 89 => ⟨S_, .bf16⟩
  | 90 => ⟨S_, .bf16⟩
  | 91 => ⟨S13312x8192, .bf16⟩
  | 92 => ⟨S13312x8192, .bf16⟩
  | 93 => ⟨S13312x8192, .bf16⟩
  | 94 => ⟨S13312x8192, .bf16⟩
  | 95 => ⟨S_, .bf16⟩
  | 96 => ⟨S_, .bf16⟩
  | 97 => ⟨S13312x8192, .bf16⟩
  | 98 => ⟨S13312x8192, .bf16⟩
  | 99 => ⟨S13312x8192, .bf16⟩
  | 100 => ⟨S_, .bf16⟩
  | 101 => ⟨S_, .bf16⟩
  | 102 => ⟨S13312x8192, .bf16⟩
  | 103 => ⟨S13312x8192, .bf16⟩
  | 104 => ⟨S13312x8192, .bf16⟩
  | 105 => ⟨S13312x8192, .bf16⟩
  | 106 => ⟨S13312x8192, .bf16⟩
  | 107 => ⟨S13312x8192, .bf16⟩
  | 108 => ⟨S13312x256x32, .bf16⟩
  | 109 => ⟨S13312x256x1, .bf16⟩
  | 110 => ⟨S13312x256x32, .bf16⟩
  | 111 => ⟨S13312x256x32, .bf16⟩
  | 112 => ⟨S13312x8192, .bf16⟩
  | 113 => ⟨S_, .i32⟩
  | 114 => ⟨S13312x8192, .i32⟩
  | 115 => ⟨S13312x8192, .i32⟩
  | 116 => ⟨S_, .i32⟩
  | 117 => ⟨S13312x8192, .i32⟩
  | 118 => ⟨S13312x8192, .i32⟩
  | 119 => ⟨S_, .i32⟩
  | 120 => ⟨S13312x8192, .i32⟩
  | 121 => ⟨S13312x8192, .i1⟩
  | 122 => ⟨S_, .i32⟩
  | 123 => ⟨S13312x8192, .i32⟩
  | 124 => ⟨S13312x8192, .i32⟩
  | 125 => ⟨S_, .i32⟩
  | 126 => ⟨S13312x8192, .i32⟩
  | 127 => ⟨S13312x8192, .i32⟩
  | _ => ⟨S1x128x16384, .bf16⟩

abbrev hbmTy0_1 (i : Nat) : BufTy := match i % 128 with
  | 0 => ⟨S_, .i32⟩
  | 1 => ⟨S13312x8192, .i32⟩
  | 2 => ⟨S13312x8192, .i1⟩
  | 3 => ⟨S_, .i32⟩
  | 4 => ⟨S13312x8192, .i32⟩
  | 5 => ⟨S13312x8192, .i32⟩
  | 6 => ⟨S_, .i32⟩
  | 7 => ⟨S13312x8192, .i32⟩
  | 8 => ⟨S13312x8192, .i32⟩
  | 9 => ⟨S_, .i32⟩
  | 10 => ⟨S13312x8192, .i32⟩
  | 11 => ⟨S13312x8192, .i1⟩
  | 12 => ⟨S_, .i32⟩
  | 13 => ⟨S13312x8192, .i32⟩
  | 14 => ⟨S13312x8192, .i32⟩
  | 15 => ⟨S_, .i32⟩
  | 16 => ⟨S13312x8192, .i32⟩
  | 17 => ⟨S13312x8192, .i32⟩
  | 18 => ⟨S_, .i32⟩
  | 19 => ⟨S13312x8192, .i32⟩
  | 20 => ⟨S13312x8192, .i1⟩
  | 21 => ⟨S_, .bf16⟩
  | 22 => ⟨S_, .bf16⟩
  | 23 => ⟨S13312x8192, .bf16⟩
  | 24 => ⟨S13312x8192, .bf16⟩
  | 25 => ⟨S13312x8192, .bf16⟩
  | 26 => ⟨S_, .bf16⟩
  | 27 => ⟨S_, .bf16⟩
  | 28 => ⟨S13312x8192, .bf16⟩
  | 29 => ⟨S13312x8192, .bf16⟩
  | 30 => ⟨S13312x8192, .bf16⟩
  | 31 => ⟨S13312x8192, .bf16⟩
  | 32 => ⟨S_, .bf16⟩
  | 33 => ⟨S_, .bf16⟩
  | 34 => ⟨S13312x8192, .bf16⟩
  | 35 => ⟨S13312x8192, .bf16⟩
  | 36 => ⟨S13312x8192, .bf16⟩
  | 37 => ⟨S_, .bf16⟩
  | 38 => ⟨S_, .bf16⟩
  | 39 => ⟨S13312x8192, .bf16⟩
  | 40 => ⟨S13312x8192, .bf16⟩
  | 41 => ⟨S13312x8192, .bf16⟩
  | 42 => ⟨S13312x8192, .bf16⟩
  | 43 => ⟨S13312x8192, .bf16⟩
  | 44 => ⟨S_, .bf16⟩
  | 45 => ⟨S_, .bf16⟩
  | 46 => ⟨S13312x8192, .bf16⟩
  | 47 => ⟨S13312x8192, .bf16⟩
  | 48 => ⟨S13312x8192, .bf16⟩
  | 49 => ⟨S_, .bf16⟩
  | 50 => ⟨S_, .bf16⟩
  | 51 => ⟨S13312x8192, .bf16⟩
  | 52 => ⟨S13312x8192, .bf16⟩
  | 53 => ⟨S13312x8192, .bf16⟩
  | 54 => ⟨S13312x8192, .bf16⟩
  | 55 => ⟨S_, .bf16⟩
  | 56 => ⟨S_, .bf16⟩
  | 57 => ⟨S13312x8192, .bf16⟩
  | 58 => ⟨S13312x8192, .bf16⟩
  | 59 => ⟨S13312x8192, .bf16⟩
  | 60 => ⟨S_, .bf16⟩
  | 61 => ⟨S_, .bf16⟩
  | 62 => ⟨S13312x8192, .bf16⟩
  | 63 => ⟨S13312x8192, .bf16⟩
  | 64 => ⟨S13312x8192, .bf16⟩
  | 65 => ⟨S13312x8192, .bf16⟩
  | 66 => ⟨S13312x8192, .bf16⟩
  | 67 => ⟨S13312x8192, .bf16⟩
  | 68 => ⟨S13312x256x32, .bf16⟩
  | 69 => ⟨S13312x256x1, .bf16⟩
  | 70 => ⟨S13312x256x32, .bf16⟩
  | 71 => ⟨S13312x256x32, .bf16⟩
  | 72 => ⟨S13312x8192, .bf16⟩
  | 73 => ⟨S1x128x8192, .bf16⟩
  | 74 => ⟨S1x128x13312, .f32⟩
  | 75 => ⟨S1x128x8192, .bf16⟩
  | 76 => ⟨S1x128x13312, .f32⟩
  | 77 => ⟨S1x128x13312, .f32⟩
  | 78 => ⟨S1x128x16, .f32⟩
  | 79 => ⟨S1x128x16, .bf16⟩
  | 80 => ⟨S1x128x13312, .f32⟩
  | 81 => ⟨S_, .f32⟩
  | 82 => ⟨S1x128x13312, .f32⟩
  | 83 => ⟨S1x128x13312, .f32⟩
  | 84 => ⟨S1x128x13312, .f32⟩
  | 85 => ⟨S1x128x13312, .bf16⟩
  | _ => ⟨S1x128x16384, .bf16⟩

abbrev hbmTy (i : Nat) : BufTy := match i / 128 with
  | 0 => hbmTy0_0 i
  | 1 => hbmTy0_1 i
  | _ => ⟨S1x128x16384, .bf16⟩

abbrev bufTy : (tb : Table) → Fin (tcTables nBuf tb) → BufTy
  | .hbm, ⟨i, _⟩ => hbmTy i
  | _, _ => ⟨S1x128x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_c_7 : Ref sig .tc := ⟨.hbm, 40, rfl⟩
abbrev main_v25 : Ref sig .tc := ⟨.hbm, 41, rfl⟩
abbrev main_v26 : Ref sig .tc := ⟨.hbm, 42, rfl⟩
abbrev main_c_8 : Ref sig .tc := ⟨.hbm, 43, rfl⟩
abbrev main_v27 : Ref sig .tc := ⟨.hbm, 44, rfl⟩
abbrev main_v28 : Ref sig .tc := ⟨.hbm, 45, rfl⟩
abbrev main_c_9 : Ref sig .tc := ⟨.hbm, 46, rfl⟩
abbrev main_v29 : Ref sig .tc := ⟨.hbm, 47, rfl⟩
abbrev main_v30 : Ref sig .tc := ⟨.hbm, 48, rfl⟩
abbrev main_c_10 : Ref sig .tc := ⟨.hbm, 49, rfl⟩
abbrev main_v31 : Ref sig .tc := ⟨.hbm, 50, rfl⟩
abbrev main_v32 : Ref sig .tc := ⟨.hbm, 51, rfl⟩
abbrev main_c_11 : Ref sig .tc := ⟨.hbm, 52, rfl⟩
abbrev main_v33 : Ref sig .tc := ⟨.hbm, 53, rfl⟩
abbrev main_v34 : Ref sig .tc := ⟨.hbm, 54, rfl⟩
abbrev main_c_12 : Ref sig .tc := ⟨.hbm, 55, rfl⟩
abbrev main_v35 : Ref sig .tc := ⟨.hbm, 56, rfl⟩
abbrev main_v36 : Ref sig .tc := ⟨.hbm, 57, rfl⟩
abbrev main_c_13 : Ref sig .tc := ⟨.hbm, 58, rfl⟩
abbrev main_v37 : Ref sig .tc := ⟨.hbm, 59, rfl⟩
abbrev main_v38 : Ref sig .tc := ⟨.hbm, 60, rfl⟩
abbrev main_cst : Ref sig .tc := ⟨.hbm, 61, rfl⟩
abbrev main_cst_14 : Ref sig .tc := ⟨.hbm, 62, rfl⟩
abbrev main_call0_v0 : Ref sig .tc := ⟨.hbm, 63, rfl⟩
abbrev main_call0_v1 : Ref sig .tc := ⟨.hbm, 64, rfl⟩
abbrev main_v39 : Ref sig .tc := ⟨.hbm, 65, rfl⟩
abbrev main_cst_15 : Ref sig .tc := ⟨.hbm, 66, rfl⟩
abbrev main_cst_16 : Ref sig .tc := ⟨.hbm, 67, rfl⟩
abbrev main_call1_v0 : Ref sig .tc := ⟨.hbm, 68, rfl⟩
abbrev main_call1_v1 : Ref sig .tc := ⟨.hbm, 69, rfl⟩
abbrev main_v40 : Ref sig .tc := ⟨.hbm, 70, rfl⟩
abbrev main_v41 : Ref sig .tc := ⟨.hbm, 71, rfl⟩
abbrev main_cst_17 : Ref sig .tc := ⟨.hbm, 72, rfl⟩
abbrev main_cst_18 : Ref sig .tc := ⟨.hbm, 73, rfl⟩
abbrev main_call3_v0 : Ref sig .tc := ⟨.hbm, 74, rfl⟩
abbrev main_call3_v1 : Ref sig .tc := ⟨.hbm, 75, rfl⟩
abbrev main_v42 : Ref sig .tc := ⟨.hbm, 76, rfl⟩
abbrev main_cst_19 : Ref sig .tc := ⟨.hbm, 77, rfl⟩
abbrev main_cst_20 : Ref sig .tc := ⟨.hbm, 78, rfl⟩
abbrev main_call4_v0 : Ref sig .tc := ⟨.hbm, 79, rfl⟩
abbrev main_call4_v1 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_21 : Ref sig .tc := ⟨.hbm, 84, rfl⟩
abbrev main_cst_22 : Ref sig .tc := ⟨.hbm, 85, rfl⟩
abbrev main_call7_v0 : Ref sig .tc := ⟨.hbm, 86, rfl⟩
abbrev main_call7_v1 : Ref sig .tc := ⟨.hbm, 87, rfl⟩
abbrev main_v46 : Ref sig .tc := ⟨.hbm, 88, rfl⟩
abbrev main_cst_23 : Ref sig .tc := ⟨.hbm, 89, rfl⟩
abbrev main_cst_24 : Ref sig .tc := ⟨.hbm, 90, rfl⟩
abbrev main_call8_v0 : Ref sig .tc := ⟨.hbm, 91, rfl⟩
abbrev main_call8_v1 : Ref sig .tc := ⟨.hbm, 92, rfl⟩
abbrev main_v47 : Ref sig .tc := ⟨.hbm, 93, rfl⟩
abbrev main_v48 : Ref sig .tc := ⟨.hbm, 94, rfl⟩
abbrev main_cst_25 : Ref sig .tc := ⟨.hbm, 95, rfl⟩
abbrev main_cst_26 : Ref sig .tc := ⟨.hbm, 96, rfl⟩
abbrev main_call10_v0 : Ref sig .tc := ⟨.hbm, 97, rfl⟩
abbrev main_call10_v1 : Ref sig .tc := ⟨.hbm, 98, rfl⟩
abbrev main_v49 : Ref sig .tc := ⟨.hbm, 99, rfl⟩
abbrev main_cst_27 : Ref sig .tc := ⟨.hbm, 100, rfl⟩
abbrev main_cst_28 : Ref sig .tc := ⟨.hbm, 101, rfl⟩
abbrev main_call11_v0 : Ref sig .tc := ⟨.hbm, 102, rfl⟩
abbrev main_call11_v1 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_c_29 : Ref sig .tc := ⟨.hbm, 113, rfl⟩
abbrev main_v59 : Ref sig .tc := ⟨.hbm, 114, rfl⟩
abbrev main_v60 : Ref sig .tc := ⟨.hbm, 115, rfl⟩
abbrev main_c_30 : Ref sig .tc := ⟨.hbm, 116, rfl⟩
abbrev main_v61 : Ref sig .tc := ⟨.hbm, 117, rfl⟩
abbrev main_v62 : Ref sig .tc := ⟨.hbm, 118, rfl⟩
abbrev main_c_31 : Ref sig .tc := ⟨.hbm, 119, rfl⟩
abbrev main_v63 : Ref sig .tc := ⟨.hbm, 120, rfl⟩
abbrev main_v64 : Ref sig .tc := ⟨.hbm, 121, rfl⟩
abbrev main_c_32 : Ref sig .tc := ⟨.hbm, 122, rfl⟩
abbrev main_v65 : Ref sig .tc := ⟨.hbm, 123, rfl⟩
abbrev main_v66 : Ref sig .tc := ⟨.hbm, 124, rfl⟩
abbrev main_c_33 : Ref sig .tc := ⟨.hbm, 125, rfl⟩
abbrev main_v67 : Ref sig .tc := ⟨.hbm, 126, rfl⟩
abbrev main_v68 : Ref sig .tc := ⟨.hbm, 127, rfl⟩
abbrev main_c_34 : Ref sig .tc := ⟨.hbm, 128, rfl⟩
abbrev main_v69 : Ref sig .tc := ⟨.hbm, 129, rfl⟩
abbrev main_v70 : Ref sig .tc := ⟨.hbm, 130, rfl⟩
abbrev main_c_35 : Ref sig .tc := ⟨.hbm, 131, rfl⟩
abbrev main_v71 : Ref sig .tc := ⟨.hbm, 132, rfl⟩
abbrev main_v72 : Ref sig .tc := ⟨.hbm, 133, rfl⟩
abbrev main_c_36 : Ref sig .tc := ⟨.hbm, 134, rfl⟩
abbrev main_v73 : Ref sig .tc := ⟨.hbm, 135, rfl⟩
abbrev main_v74 : Ref sig .tc := ⟨.hbm, 136, rfl⟩
abbrev main_c_37 : Ref sig .tc := ⟨.hbm, 137, rfl⟩
abbrev main_v75 : Ref sig .tc := ⟨.hbm, 138, rfl⟩
abbrev main_v76 : Ref sig .tc := ⟨.hbm, 139, rfl⟩
abbrev main_c_38 : Ref sig .tc := ⟨.hbm, 140, rfl⟩
abbrev main_v77 : Ref sig .tc := ⟨.hbm, 141, rfl⟩
abbrev main_v78 : Ref sig .tc := ⟨.hbm, 142, rfl⟩
abbrev main_c_39 : Ref sig .tc := ⟨.hbm, 143, rfl⟩
abbrev main_v79 : Ref sig .tc := ⟨.hbm, 144, rfl⟩
abbrev main_v80 : Ref sig .tc := ⟨.hbm, 145, rfl⟩
abbrev main_c_40 : Ref sig .tc := ⟨.hbm, 146, rfl⟩
abbrev main_v81 : Ref sig .tc := ⟨.hbm, 147, rfl⟩
abbrev main_v82 : Ref sig .tc := ⟨.hbm, 148, rfl⟩
abbrev main_cst_41 : Ref sig .tc := ⟨.hbm, 149, rfl⟩
abbrev main_cst_42 : Ref sig .tc := ⟨.hbm, 150, rfl⟩
abbrev main_call15_v0 : Ref sig .tc := ⟨.hbm, 151, rfl⟩
abbrev main_call15_v1 : Ref sig .tc := ⟨.hbm, 152, rfl⟩
abbrev main_v83 : Ref sig .tc := ⟨.hbm, 153, rfl⟩
abbrev main_cst_43 : Ref sig .tc := ⟨.hbm, 154, rfl⟩
abbrev main_cst_44 : Ref sig .tc := ⟨.hbm, 155, rfl⟩
abbrev main_call16_v0 : Ref sig .tc := ⟨.hbm, 156, rfl⟩
abbrev main_call16_v1 : Ref sig .tc := ⟨.hbm, 157, rfl⟩
abbrev main_v84 : Ref sig .tc := ⟨.hbm, 158, rfl⟩
abbrev main_v85 : Ref sig .tc := ⟨.hbm, 159, rfl⟩
abbrev main_cst_45 : Ref sig .tc := ⟨.hbm, 160, rfl⟩
abbrev main_cst_46 : Ref sig .tc := ⟨.hbm, 161, rfl⟩
abbrev main_call18_v0 : Ref sig .tc := ⟨.hbm, 162, rfl⟩
abbrev main_call18_v1 : Ref sig .tc := ⟨.hbm, 163, rfl⟩
abbrev main_v86 : Ref sig .tc := ⟨.hbm, 164, rfl⟩
abbrev main_cst_47 : Ref sig .tc := ⟨.hbm, 165, rfl⟩
abbrev main_cst_48 : Ref sig .tc := ⟨.hbm, 166, rfl⟩
abbrev main_call19_v0 : Ref sig .tc := ⟨.hbm, 167, rfl⟩
abbrev main_call19_v1 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_cst_49 : Ref sig .tc := ⟨.hbm, 172, rfl⟩
abbrev main_cst_50 : Ref sig .tc := ⟨.hbm, 173, rfl⟩
abbrev main_call22_v0 : Ref sig .tc := ⟨.hbm, 174, rfl⟩
abbrev main_call22_v1 : Ref sig .tc := ⟨.hbm, 175, rfl⟩
abbrev main_v90 : Ref sig .tc := ⟨.hbm, 176, rfl⟩
abbrev main_cst_51 : Ref sig .tc := ⟨.hbm, 177, rfl⟩
abbrev main_cst_52 : Ref sig .tc := ⟨.hbm, 178, rfl⟩
abbrev main_call23_v0 : Ref sig .tc := ⟨.hbm, 179, rfl⟩
abbrev main_call23_v1 : Ref sig .tc := ⟨.hbm, 180, rfl⟩
abbrev main_v91 : Ref sig .tc := ⟨.hbm, 181, rfl⟩
abbrev main_v92 : Ref sig .tc := ⟨.hbm, 182, rfl⟩
abbrev main_cst_53 : Ref sig .tc := ⟨.hbm, 183, rfl⟩
abbrev main_cst_54 : Ref sig .tc := ⟨.hbm, 184, rfl⟩
abbrev main_call25_v0 : Ref sig .tc := ⟨.hbm, 185, rfl⟩
abbrev main_call25_v1 : Ref sig .tc := ⟨.hbm, 186, rfl⟩
abbrev main_v93 : Ref sig .tc := ⟨.hbm, 187, rfl⟩
abbrev main_cst_55 : Ref sig .tc := ⟨.hbm, 188, rfl⟩
abbrev main_cst_56 : Ref sig .tc := ⟨.hbm, 189, rfl⟩
abbrev main_call26_v0 : Ref sig .tc := ⟨.hbm, 190, rfl⟩
abbrev main_call26_v1 : Ref sig .tc := ⟨.hbm, 191, rfl⟩
abbrev main_v94 : Ref sig .tc := ⟨.hbm, 192, rfl⟩
abbrev main_v95 : Ref sig .tc := ⟨.hbm, 193, rfl⟩
abbrev main_v96 : Ref sig .tc := ⟨.hbm, 194, rfl⟩
abbrev main_v97 : Ref sig .tc := ⟨.hbm, 195, rfl⟩
abbrev main_v98 : Ref sig .tc := ⟨.hbm, 196, rfl⟩
abbrev main_v99 : Ref sig .tc := ⟨.hbm, 197, rfl⟩
abbrev main_v100 : Ref sig .tc := ⟨.hbm, 198, rfl⟩
abbrev main_v101 : Ref sig .tc := ⟨.hbm, 199, rfl⟩
abbrev main_v102 : Ref sig .tc := ⟨.hbm, 200, rfl⟩
abbrev main_v103 : Ref sig .tc := ⟨.hbm, 201, rfl⟩
abbrev main_v104 : Ref sig .tc := ⟨.hbm, 202, rfl⟩
abbrev main_v105 : Ref sig .tc := ⟨.hbm, 203, rfl⟩
abbrev main_v106 : Ref sig .tc := ⟨.hbm, 204, rfl⟩
abbrev main_v107 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_cst_57 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩

abbrev nD : Nat := 1
abbrev τ : Topo := Topo.v7x

variable {F : FTy → Type} [FloatOps F]
-- ==== Proof.Kernel.Blocks.lean ====
/- The decoding part of one trip of the chunk loop, written once for every tile.

   The printed trip repeats the same statements for each of the 8 groups of 128 packed columns, the
   4 sets of 128 output lanes and the 4 scale blocks of 64 weights inside a group.  Here the values
   and places are stated once, over the group, lanes and block, and the pieces the run of the trip
   finds are shown to be these. -/
module

public import proofs.«01_k».proof.Proof.Gen.Kernel.Loops
public import proofs.«01_k».proof.Proof.Gen.Kernel.Frame

@[expose] public section

noncomputable section

namespace Cert.Kernel.Hand

open Idealize.ShloMosaic Idealize.ShloMosaic.TcCoe Idealize.SL.Sem
open Cert.Kernel Cert.Kernel.Gen

variable {F : FTy → Type} [FloatOps F]

/-! ## The values of one block -/

/-- The low nibble of every byte of a word. -/
def nibLow (w : IVec S8x128 32) : IVec S8x128 32 := andi w (broadcast S8x128 252645135#32)

/-- The high nibble of every byte of a word. -/
def nibHigh (w : IVec S8x128 32) : IVec S8x128 32 :=
  andi (shrsi w (broadcast S8x128 4#32)) (broadcast S8x128 252645135#32)

/-- The table entries the nibbles `nib` (one per byte) select, as bytes. -/
def look (tbl : IVec S32x128 32) (nib : IVec S8x128 32) : IVec S32x128 8 :=
  trunci 8 (dynamicGather 1 tbl (shapeCast S32x128 (shapeCast S32x128x1
    (extsi 32 (bitcast S32x128 8 nib bitcasts_S8x128_w32_S32x128_w8) natLt_8_32)
    shapeCasts_S32x128_S32x128x1) shapeCasts_S32x128x1_S32x128)) natLt_8_32

/-- The words whose halves are the bf16 codes of the even rows' bytes. -/
def evenW (lo hi : IVec S32x128 8) : IVec S8x128 32 :=
  ori (andi (bitcast S8x128 32 lo bitcasts_S32x128_w8_S8x128_w32) (broadcast S8x128 16711935#32))
    (shli (andi (bitcast S8x128 32 hi bitcasts_S32x128_w8_S8x128_w32) (broadcast S8x128 16711935#32))
      (broadcast S8x128 8#32))

/-- The words whose halves are the bf16 codes of the odd rows' bytes. -/
def oddW (lb : IVec S32x128 1) (lo hi : IVec S32x128 8) : IVec S8x128 32 :=
  bitcast S8x128 32 (select lb
    (bitcast S32x128 8 (shrui (bitcast S8x128 32 lo bitcasts_S32x128_w8_S8x128_w32) (broadcast S8x128 8#32))
      bitcasts_S8x128_w32_S32x128_w8) hi) bitcasts_S32x128_w8_S8x128_w32

/-- The halves of the words read as bf16. -/
def asBf (w : IVec S8x128 32) : FVec F S16x128 .bf16 :=
  bitcastToFloat .bf16 (bitcast S16x128 16 w bitcasts_S8x128_w32_S16x128_w16)

/-- A block's scales, one per lane, along the sixteen rows of a tile. -/
def amaxT (a : Vec F S1x1x128 .f32) : FVec F S16x128 .bf16 :=
  truncf .bf16 (broadcastTo S16x128 (shapeCast S1x128 (shapeCast S1x128 (a : FVec F S1x1x128 .f32) shapeCasts_S1x1x128_S1x128)
    shapeCasts_S1x128_S1x128) broadcasts_S1x128_S16x128) bitsLt_bf16_f32

/-- The words of the packed weights: the tile transposed, four bytes to a word. -/
def wordsT (w : Vec F S128x128 .i8) : IVec S32x128 32 :=
  bitcast S32x128 32 (transpose S128x128 [1, 0] (w : IVec S128x128 8) transposes_S128x128_p1_0_S128x128)
    bitcasts_S128x128_w8_S32x128_w32

theorem slices_block (b : Fin 4) : S32x128.Slices ![8 * b.val, 0] S8x128 := by
  revert b; decide

/-- The eight rows of words of block `b`. -/
def blockW (w : IVec S32x128 32) (b : Fin 4) : IVec S8x128 32 :=
  extractStridedSlice S8x128 ![8 * b.val, 0] w (slices_block b)

/-- The four tiles of sixteen rows a block decodes to: low nibbles of the even bytes, of the odd
    bytes, then high nibbles of the even bytes, of the odd bytes. -/
def tile (tl th : IVec S32x128 32) (lb : IVec S32x128 1) (w : IVec S8x128 32) (am : FVec F S16x128 .bf16) :
    Fin 4 → FVec F S16x128 .bf16
  | 0 => mulf (asBf (evenW (look tl (nibLow w)) (look th (nibLow w)))) am
  | 1 => mulf (asBf (oddW lb (look tl (nibLow w)) (look th (nibLow w)))) am
  | 2 => mulf (asBf (evenW (look tl (nibHigh w)) (look th (nibHigh w)))) am
  | 3 => mulf (asBf (oddW lb (look tl (nibHigh w)) (look th (nibHigh w)))) am

/-! ## The rectangles of one block -/

/-- Where the packed weights of group `jt`, lanes `n` start at trip `k`. -/
def wOff (k : Fin k0_t2_loop.trips) (jt : Fin 8) (n : Fin 4) : Fin 2 → Nat :=
  ![128 * n.val, k0_off2 k (BitVec.ofNat 32 (128 * jt.val)) 1]

theorem wOff_inb (k : Fin k0_t2_loop.trips) (jt : Fin 8) (n : Fin 4) :
    ∀ a, wOff k jt n a + S128x128.size a ≤ S512x8192.size a := by
  have h := k0_off2_inb k jt 1
  intro a
  match a with
  | 0 => show 128 * n.val + 128 ≤ 512; omega
  | 1 => exact h

/-- Where the scales of block `b` of group `jt`, lanes `n` start at trip `k`. -/
def aOff (k : Fin k0_t2_loop.trips) (jt : Fin 8) (n : Fin 4) (b : Fin 4) : Fin 3 → Nat :=
  ![k0_off3 k 0, 4 * jt.val + b.val, 128 * n.val]

theorem aOff_inb (k : Fin k0_t2_loop.trips) (jt : Fin 8) (n : Fin 4) (b : Fin 4) :
    ∀ a, aOff k jt n b a + S1x1x128.size a ≤ S8x32x512.size a := by
  have h := k0_off3_inb k 0
  intro a
  match a with
  | 0 => exact h
  | 1 => show 4 * jt.val + b.val + 1 ≤ 32; omega
  | 2 => show 128 * n.val + 128 ≤ 512; omega

/-- Where tile `v` of block `b` of group `jt`, lanes `n` is stored. -/
def dOff (jt : Fin 8) (n : Fin 4) (b : Fin 4) (v : Fin 4) : Fin 2 → Nat :=
  ![256 * jt.val + 64 * b.val + 16 * v.val, 128 * n.val]

theorem dOff_inb (jt : Fin 8) (n : Fin 4) (b : Fin 4) (v : Fin 4) :
    ∀ a, dOff jt n b v a + S16x128.size a ≤ S2048x512.size a := by
  intro a
  match a with
  | 0 => show 256 * jt.val + 64 * b.val + 16 * v.val + 16 ≤ 2048; omega
  | 1 => show 128 * n.val + 128 ≤ 512; omega

/-- The rectangle of a tile. -/
abbrev dRect (jt : Fin 8) (n : Fin 4) (b : Fin 4) (v : Fin 4) : Rect S2048x512 :=
  Rect.unit (s := S2048x512) (dOff jt n b v) S16x128.size (dOff_inb jt n b v)

/-! ## The pieces one trip stores -/

section pieces
variable (tl th : IVec S32x128 32) (lb : IVec S32x128 1)
  (W : Vec F S512x8192 .i8) (A : Vec F S8x32x512 .f32)
  (k : Fin k0_t2_loop.trips)

/-- The packed weights of group `jt`, lanes `n`, as trip `k` reads them. -/
def wAt (jt : Fin 8) (n : Fin 4) : Vec F S128x128 .i8 :=
  View.ld (Val := Elt F) W (Rect.unit (s := S512x8192) (wOff k jt n) S128x128.size (wOff_inb k jt n))

/-- The scales of block `b` of group `jt`, lanes `n`, as trip `k` reads them. -/
def aAt (jt : Fin 8) (n b : Fin 4) : Vec F S1x1x128 .f32 :=
  View.ld (Val := Elt F) A (Rect.unit (s := S8x32x512) (aOff k jt n b) S1x1x128.size (aOff_inb k jt n b))

/-- One decoded tile and where it goes. -/
def piece (jt : Fin 8) (n b v : Fin 4) : View.Piece (Elt F) S2048x512 .bf16 :=
  ⟨dRect jt n b v, shapeCast S16x128
    (tile tl th lb (blockW (wordsT (wAt W k jt n)) b) (amaxT (aAt A k jt n b)) v) shapeCasts_S16x128_S16x128⟩

/-- The four tiles of a block, last first. -/
def blockPieces (jt : Fin 8) (n b : Fin 4) : List (View.Piece (Elt F) S2048x512 .bf16) :=
  [piece tl th lb W A k jt n b 3, piece tl th lb W A k jt n b 2,
   piece tl th lb W A k jt n b 1, piece tl th lb W A k jt n b 0]

/-- The four blocks of one set of lanes, last first. -/
def lanePieces (jt : Fin 8) (n : Fin 4) : List (View.Piece (Elt F) S2048x512 .bf16) :=
  blockPieces tl th lb W A k jt n 3 ++ (blockPieces tl th lb W A k jt n 2 ++
    (blockPieces tl th lb W A k jt n 1 ++ blockPieces tl th lb W A k jt n 0))

/-- The four sets of lanes of one group, last first. -/
def groupPieces (jt : Fin 8) : List (View.Piece (Elt F) S2048x512 .bf16) :=
  lanePieces tl th lb W A k jt 3 ++ (lanePieces tl th lb W A k jt 2 ++
    (lanePieces tl th lb W A k jt 1 ++ lanePieces tl th lb W A k jt 0))

/-- The eight groups of a chunk, last first. -/
def chunkPieces : List (View.Piece (Elt F) S2048x512 .bf16) :=
  groupPieces tl th lb W A k 7 ++ (groupPieces tl th lb W A k 6 ++
    (groupPieces tl th lb W A k 5 ++ (groupPieces tl th lb W A k 4 ++
      (groupPieces tl th lb W A k 3 ++ (groupPieces tl th lb W A k 2 ++
        (groupPieces tl th lb W A k 1 ++ groupPieces tl th lb W A k 0))))))

end pieces

variable (𝒱 : Variants) (c : Dev nD) (bd : Option 𝒱.V) (i : grid0.Coords)
  (arg1 : Memref sig .tc .smem S1 .f32) (harg1 : arg1.IsWhole)
  (arg2 : Memref sig .tc .vmem S128x16384 .bf16) (harg2 : arg2.IsWhole)
  (arg3 : Memref sig .tc .vmem S512x8192 .i8) (harg3 : arg3.IsWhole)
  (arg4 : Memref sig .tc .vmem S512x256 .i8) (harg4 : arg4.IsWhole)
  (arg5 : Memref sig .tc .vmem S1x512 .f32) (harg5 : arg5.IsWhole)
  (arg6 : Memref sig .tc .vmem S16x16384 .bf16) (harg6 : arg6.IsWhole)
  (arg7 : Memref sig .tc .vmem S16x512 .bf16) (harg7 : arg7.IsWhole)
  (arg8 : Memref sig .tc .vmem S128x512 .bf16) (harg8 : arg8.IsWhole)
  (arg9 : Memref sig .tc .vmem S128x16384 .bf16) (harg9 : arg9.IsWhole)
  (arg10 : Memref sig .tc .vmem S128x16 .bf16) (harg10 : arg10.IsWhole)
  (arg11 : Memref sig .tc .vmem S8x32x512 .f32) (harg11 : arg11.IsWhole)
  (arg12 : Memref sig .tc .vmem S2048x512 .bf16) (harg12 : arg12.IsWhole)
  (arg13 : Memref sig .tc .vmem S128x512 .f32) (harg13 : arg13.IsWhole)
  (v200 v203 v240 v241 : IVec S32x128 32)
  (X3 : BufTy.Contents (Elt F) arg3.view.ty) (X9 : BufTy.Contents (Elt F) arg9.view.ty)
  (X11 : BufTy.Contents (Elt F) arg11.view.ty) (k : Fin k0_t2_loop.trips)
  (f12 : BufTy.Contents (Elt F) arg12.view.ty) (f13 : BufTy.Contents (Elt F) arg13.view.ty)

set_option maxRecDepth 1000000 in
set_option maxHeartbeats 0 in
/-- The pieces the run of one trip finds are the pieces above. -/
theorem tripL_fst : (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v200 v203 v240 v241 X3 X9 X11 k f12 f13).1
    = chunkPieces v200 (k0_pay2175 v203 v240 v241) k0_pay2176 (arg3.view.read (Elt F) X3) (arg11.view.read (Elt F) X11) k := by
  unfold tripL_k0_t2 trip_k0_t2
  rfl

set_option maxRecDepth 1000000 in
set_option maxHeartbeats 0 in
/-- The trip adds the product of its chunk of columns with the decoded weights to the accumulator. -/
theorem tripL_snd : (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v200 v203 v240 v241 X3 X9 X11 k f12 f13).2
    = [⟨Rect.unit (s := S128x512) ![0, 0] S128x512.size inb_S128x512_S128x512_0_0,
        k0_pay2177 (View.ld (Val := Elt F) (arg9.view.read (Elt F) X9) (Rect.unit (s := S128x16384) (k0_off134 k) S128x2048.size (k0_off134_inb k)))
          (arg12.view.readCov (chunkPieces v200 (k0_pay2175 v203 v240 v241) k0_pay2176 (arg3.view.read (Elt F) X3) (arg11.view.read (Elt F) X11) k)
            (Rect.unit (s := S2048x512) ![0, 0] S2048x512.size inb_S2048x512_S2048x512_0_0).toLoadRect)
          (View.ld (Val := Elt F) (arg13.view.read (Elt F) f13) (Rect.unit (s := S128x512) ![0, 0] S128x512.size inb_S128x512_S128x512_0_0))⟩] := by
  unfold tripL_k0_t2 trip_k0_t2
  rfl

end Cert.Kernel.Hand

end
-- ==== Proof.Kernel.Values.lean ====
/- What the kernel's scratch buffers and its result hold, as functions of the blocks it reads, at any
   floats: the reordered columns of `x`, the low-rank part, the scales, a decoded chunk of weights,
   the accumulator after each chunk and the stored tile; and that the pieces the loops write leave
   exactly these. -/
module

public import proofs.«01_k».proof.Proof.Kernel.Blocks
public import Idealize.ShloMosaic.Lib.VecWindow

@[expose] public section

noncomputable section

namespace Cert.Kernel.Hand

open Idealize.ShloMosaic Idealize.ShloMosaic.TcCoe Idealize.SL.Sem
open Cert.Kernel Cert.Kernel.Gen

variable {F : FTy → Type} [FloatOps F]

/-! ## The reordered columns -/

/-- The 256 × 256 matrix the kernel multiplies each group of 256 columns by. -/
def perm : FVec F S256x256 .bf16 :=
  k0_pay10 (F := F) (iota .tc S256x256 32 [0] iota_S256x256_d0_w32) k0_pay1 k0_pay2 (k0_pay4 k0_pay2 32#32 k0_pay3)
    (k0_pay6 (k0_pay5 k0_pay2)) (k0_pay7 k0_pay2) 2#32 (k0_pay8 k0_pay2) (k0_pay9 k0_pay2)
    (Scalar.extui (Scalar.cmpi .sgt 2#32 0#32)) 0#32

theorem xp_inb (k : Fin k0_t1_loop.trips) : ∀ a, (k0_off1 k) a + S128x256.size a ≤ S128x16384.size a := by
  rw [k0_off1_eq]
  have := Nat.lt_of_lt_of_le k.isLt k0_t1_abs.2.1
  intro a
  match a with
  | 0 => show 0 + 128 ≤ 128; omega
  | 1 => show 256 * k.val + 256 ≤ 16384; omega

/-- The columns of trip `k`. -/
abbrev xpRect (k : Fin k0_t1_loop.trips) : Rect S128x16384 :=
  Rect.unit (s := S128x16384) (k0_off1 k) S128x256.size (xp_inb k)

/-- The groups of columns the trips before `n` store, last first. -/
def xpPieces (X : Vec F S128x16384 .bf16) : ℕ → List (View.Piece (Elt F) S128x16384 .bf16)
  | 0 => []
  | n + 1 => if h : n < k0_t1_loop.trips then
      ⟨xpRect ⟨n, h⟩, k0_pay2155 perm (View.ld (Val := Elt F) X (xpRect ⟨n, h⟩))⟩ :: xpPieces X n
    else xpPieces X n

/-- The reordered `x`. -/
def xpOf (X : Vec F S128x16384 .bf16) : Vec F S128x16384 .bf16 := View.canon (xpPieces X k0_t1_loop.trips)

theorem xpPieces_cover (X : Vec F S128x16384 .bf16) (n : ℕ) (hn : n ≤ k0_t1_loop.trips) (y : S128x16384.Idx)
    (hy : (y 1).val < 256 * n) : ∃ p ∈ xpPieces X n, y ∈ p.1.set := by
  induction n with
  | zero => omega
  | succ n ih =>
    have h : n < k0_t1_loop.trips := by omega
    unfold xpPieces; rw [dif_pos h]
    by_cases hlt : (y 1).val < 256 * n
    · obtain ⟨p, hp, hm⟩ := ih (by omega) hlt
      exact ⟨p, List.mem_cons_of_mem _ hp, hm⟩
    · refine ⟨_, List.mem_cons_self, ?_⟩
      show y ∈ (xpRect ⟨n, h⟩).set
      rw [Rect.mem_set_unit]
      intro a
      rw [k0_off1_eq]
      match a with
      | 0 => exact ⟨Nat.zero_le _, (y 0).isLt⟩
      | 1 => exact ⟨by show 256 * n ≤ _; omega, by show (y 1).val < 256 * n + 256; omega⟩

theorem t1_trips : k0_t1_loop.trips = 64 := by decide
theorem t2_trips : k0_t2_loop.trips = 8 := by decide

theorem xp_covers (X : Vec F S128x16384 .bf16) (y : S128x16384.Idx) :
    ∃ p ∈ xpPieces X k0_t1_loop.trips, y ∈ p.1.set :=
  xpPieces_cover X _ le_rfl y (by rw [t1_trips]; exact (y 1).isLt)

/-! ## The low-rank part and the scales -/

/-- Twice the product of `x` with the first low-rank factor. -/
def lowOf (X : Vec F S128x16384 .bf16) (La : Vec F S16x16384 .bf16) : Vec F S128x16 .bf16 := k0_pay2156 X La

/-- The one offset. -/
def offOf (O : Vec F S1 .f32) : Elt F .f32 :=
  View.ld (Val := Elt F) O (Rect.unit (s := S1) ![0] S1.size inb_S1_S1_0) (Shape.Idx.first (by decide))

theorem lane_slices (n : Fin 4) : S1x512.Slices ![0, 128 * n.val] S1x128 := by
  revert n; decide

/-- The scales of 128 outputs and 128 blocks: code times scale plus offset, rounded to bf16. -/
def amVal (n : Fin 4) (S : Vec F S1x512 .f32) (o : Elt F .f32) (C : Vec F S128x128 .i8) : FVec F S4x32x128 .f32 :=
  shapeCast S4x32x128 (shapeCast S4x32x128 (extf .f32 (truncf .bf16
    (addf (mulf (sitofp .f32 (extsi 32 (transpose S128x128 [1, 0] (C : IVec S128x128 8) transposes_S128x128_p1_0_S128x128) natLt_8_32))
        (broadcastTo S128x128 (extractStridedSlice S1x128 ![0, 128 * n.val] (shapeCast S1x512 S shapeCasts_S1x512_S1x512) (lane_slices n)) broadcasts_S1x128_S128x128))
      (broadcast S128x128 o)) bitsLt_bf16_f32) bitsLt_bf16_f32) shapeCasts_S128x128_S4x32x128) shapeCasts_S4x32x128_S4x32x128

theorem cd_inb (h : Fin 2) (n : Fin 4) : ∀ a, (![128 * n.val, 128 * h.val] : Fin 2 → ℕ) a + S128x128.size a ≤ S512x256.size a := by
  intro a
  match a with
  | 0 => show 128 * n.val + 128 ≤ 512; omega
  | 1 => show 128 * h.val + 128 ≤ 256; omega

theorem am_inb (h : Fin 2) (n : Fin 4) : ∀ a, (![4 * h.val, 0, 128 * n.val] : Fin 3 → ℕ) a + S4x32x128.size a ≤ S8x32x512.size a := by
  intro a
  match a with
  | 0 => show 4 * h.val + 4 ≤ 8; omega
  | 1 => show 0 + 32 ≤ 32; omega
  | 2 => show 128 * n.val + 128 ≤ 512; omega

/-- The scales of half `h` of the blocks and lanes `n`, and where they go. -/
def amPiece (S : Vec F S1x512 .f32) (o : Elt F .f32) (C : Vec F S512x256 .i8) (h : Fin 2) (n : Fin 4) :
    View.Piece (Elt F) S8x32x512 .f32 :=
  ⟨Rect.unit (s := S8x32x512) ![4 * h.val, 0, 128 * n.val] S4x32x128.size (am_inb h n),
    amVal n S o (View.ld (Val := Elt F) C (Rect.unit (s := S512x256) ![128 * n.val, 128 * h.val] S128x128.size (cd_inb h n)))⟩

/-- The eight stores of the scales, last first. -/
def amPieces (S : Vec F S1x512 .f32) (o : Elt F .f32) (C : Vec F S512x256 .i8) : List (View.Piece (Elt F) S8x32x512 .f32) :=
  [amPiece S o C 1 3, amPiece S o C 0 3, amPiece S o C 1 2, amPiece S o C 0 2,
   amPiece S o C 1 1, amPiece S o C 0 1, amPiece S o C 1 0, amPiece S o C 0 0]

theorem amPiece_mem (S : Vec F S1x512 .f32) (o : Elt F .f32) (C : Vec F S512x256 .i8) (h : Fin 2) (n : Fin 4) :
    amPiece S o C h n ∈ amPieces S o C := by
  unfold amPieces
  fin_cases h <;> fin_cases n <;> simp

theorem am_covers (S : Vec F S1x512 .f32) (o : Elt F .f32) (C : Vec F S512x256 .i8) (y : S8x32x512.Idx) :
    ∃ p ∈ amPieces S o C, y ∈ p.1.set := by
  have h0 : (y 0).val < 8 := (y 0).isLt
  have h2 : (y 2).val < 512 := (y 2).isLt
  refine ⟨_, amPiece_mem S o C ⟨(y 0).val / 4, by omega⟩ ⟨(y 2).val / 128, by omega⟩, ?_⟩
  unfold amPiece
  rw [Rect.mem_set_unit]
  intro a
  match a with
  | 0 => exact ⟨by show 4 * ((y 0).val / 4) ≤ _; omega, by show (y 0).val < 4 * ((y 0).val / 4) + 4; omega⟩
  | 1 => exact ⟨Nat.zero_le _, by show (y 1).val < 0 + 32; have h1 : (y 1).val < 32 := (y 1).isLt; omega⟩
  | 2 => exact ⟨by show 128 * ((y 2).val / 128) ≤ _; omega, by show (y 2).val < 128 * ((y 2).val / 128) + 128; omega⟩

/-- All scales of the 512 outputs. -/
def amOf (S : Vec F S1x512 .f32) (o : Elt F .f32) (C : Vec F S512x256 .i8) : Vec F S8x32x512 .f32 :=
  View.canon (amPieces S o C)

/-! ## One decoded chunk -/

/-- The bf16 table as bytes: the low bytes, the high bytes, and which rows hold even bytes. -/
def tblLow : IVec S32x128 32 := k0_pay2171 k0_pay2168 k0_pay2169 k0_pay2170
def tblHigh : IVec S32x128 32 :=
  k0_pay2175 (k0_pay2172 (iota .tc S32x128 32 [1] iota_S32x128_d1_w32) 15#32)
    (k0_pay2173 (iota .tc S32x128 32 [1] iota_S32x128_d1_w32) 15#32) k0_pay2174
def rowsEven : IVec S32x128 1 := k0_pay2176

section chunk
variable (W : Vec F S512x8192 .i8) (A : Vec F S8x32x512 .f32) (k : Fin k0_t2_loop.trips)

theorem piece_mem (jt : Fin 8) (n b v : Fin 4) :
    piece tblLow tblHigh rowsEven W A k jt n b v ∈ chunkPieces tblLow tblHigh rowsEven W A k := by
  have hb : piece tblLow tblHigh rowsEven W A k jt n b v ∈ blockPieces tblLow tblHigh rowsEven W A k jt n b := by
    unfold blockPieces; fin_cases v <;> simp
  have hn : piece tblLow tblHigh rowsEven W A k jt n b v ∈ lanePieces tblLow tblHigh rowsEven W A k jt n := by
    unfold lanePieces
    simp only [List.mem_append]
    fin_cases b
    · exact .inr (.inr (.inr hb))
    · exact .inr (.inr (.inl hb))
    · exact .inr (.inl hb)
    · exact .inl hb
  have hj : piece tblLow tblHigh rowsEven W A k jt n b v ∈ groupPieces tblLow tblHigh rowsEven W A k jt := by
    unfold groupPieces
    simp only [List.mem_append]
    fin_cases n
    · exact .inr (.inr (.inr hn))
    · exact .inr (.inr (.inl hn))
    · exact .inr (.inl hn)
    · exact .inl hn
  unfold chunkPieces
  simp only [List.mem_append]
  fin_cases jt
  · exact .inr (.inr (.inr (.inr (.inr (.inr (.inr hj))))))
  · exact .inr (.inr (.inr (.inr (.inr (.inr (.inl hj))))))
  · exact .inr (.inr (.inr (.inr (.inr (.inl hj)))))
  · exact .inr (.inr (.inr (.inr (.inl hj))))
  · exact .inr (.inr (.inr (.inl hj)))
  · exact .inr (.inr (.inl hj))
  · exact .inr (.inl hj)
  · exact .inl hj

/-- The group, lanes, block and tile an element of the chunk lies in. -/
abbrev jtOf (y : S2048x512.Idx) : Fin 8 := ⟨(y 0).val / 256, by have h : (y 0).val < 2048 := (y 0).isLt; omega⟩
abbrev bOf (y : S2048x512.Idx) : Fin 4 := ⟨(y 0).val % 256 / 64, by omega⟩
abbrev vOf (y : S2048x512.Idx) : Fin 4 := ⟨(y 0).val % 64 / 16, by omega⟩
abbrev nOf (y : S2048x512.Idx) : Fin 4 := ⟨(y 1).val / 128, by have h : (y 1).val < 512 := (y 1).isLt; omega⟩

theorem mem_dRect (y : S2048x512.Idx) : y ∈ (dRect (jtOf y) (nOf y) (bOf y) (vOf y)).set := by
  rw [Rect.mem_set_unit]
  have h0 : (y 0).val < 2048 := (y 0).isLt
  have h1 : (y 1).val < 512 := (y 1).isLt
  intro a
  match a with
  | 0 => exact ⟨by show 256 * ((y 0).val / 256) + 64 * ((y 0).val % 256 / 64) + 16 * ((y 0).val % 64 / 16) ≤ _; omega,
      by show (y 0).val < 256 * ((y 0).val / 256) + 64 * ((y 0).val % 256 / 64) + 16 * ((y 0).val % 64 / 16) + 16; omega⟩
  | 1 => exact ⟨by show 128 * ((y 1).val / 128) ≤ _; omega, by show (y 1).val < 128 * ((y 1).val / 128) + 128; omega⟩

theorem chunk_covers (y : S2048x512.Idx) : ∃ p ∈ chunkPieces tblLow tblHigh rowsEven W A k, y ∈ p.1.set :=
  ⟨_, piece_mem W A k (jtOf y) (nOf y) (bOf y) (vOf y), mem_dRect y⟩

/-- The decoded weights of chunk `k`. -/
def wdOf : Vec F S2048x512 .bf16 := View.canon (chunkPieces tblLow tblHigh rowsEven W A k)

end chunk

/-! ## The accumulator -/

/-- Chunk `k`'s columns of the reordered `x`. -/
abbrev chunkRect (k : Fin k0_t2_loop.trips) : Rect S128x16384 :=
  Rect.unit (s := S128x16384) (k0_off134 k) S128x2048.size (k0_off134_inb k)

/-- The accumulator after `n` chunks, from `a0`. -/
def accOf (Xp : Vec F S128x16384 .bf16) (W : Vec F S512x8192 .i8) (A : Vec F S8x32x512 .f32) (a0 : Vec F S128x512 .f32) :
    ℕ → Vec F S128x512 .f32
  | 0 => a0
  | n + 1 => if h : n < k0_t2_loop.trips then
      k0_pay2177 (View.ld (Val := Elt F) Xp (chunkRect ⟨n, h⟩)) (wdOf W A ⟨n, h⟩) (accOf Xp W A a0 n)
    else accOf Xp W A a0 n

/-- The tile a grid point stores. -/
def outOf (Xp : Vec F S128x16384 .bf16) (Lo : Vec F S128x16 .bf16) (O : Vec F S1 .f32) (W : Vec F S512x8192 .i8)
    (C : Vec F S512x256 .i8) (S : Vec F S1x512 .f32) (Lb : Vec F S16x512 .bf16) : Vec F S128x512 .bf16 :=
  k0_pay2178 (accOf Xp W (amOf S (offOf O) C) (k0_pay2167 Lo Lb) k0_t2_loop.trips)

/-! ## What the loops leave -/

section loops
variable (𝒱 : Variants) (c : Dev nD) (bd : Option 𝒱.V) (i : grid0.Coords)
  (arg1 : Memref sig .tc .smem S1 .f32) (harg1 : arg1.IsWhole)
  (arg2 : Memref sig .tc .vmem S128x16384 .bf16) (harg2 : arg2.IsWhole)
  (arg3 : Memref sig .tc .vmem S512x8192 .i8) (harg3 : arg3.IsWhole)
  (arg4 : Memref sig .tc .vmem S512x256 .i8) (harg4 : arg4.IsWhole)
  (arg5 : Memref sig .tc .vmem S1x512 .f32) (harg5 : arg5.IsWhole)
  (arg6 : Memref sig .tc .vmem S16x16384 .bf16) (harg6 : arg6.IsWhole)
  (arg7 : Memref sig .tc .vmem S16x512 .bf16) (harg7 : arg7.IsWhole)
  (arg8 : Memref sig .tc .vmem S128x512 .bf16) (harg8 : arg8.IsWhole)
  (arg9 : Memref sig .tc .vmem S128x16384 .bf16) (harg9 : arg9.IsWhole)
  (arg10 : Memref sig .tc .vmem S128x16 .bf16) (harg10 : arg10.IsWhole)
  (arg11 : Memref sig .tc .vmem S8x32x512 .f32) (harg11 : arg11.IsWhole)
  (arg12 : Memref sig .tc .vmem S2048x512 .bf16) (harg12 : arg12.IsWhole)
  (arg13 : Memref sig .tc .vmem S128x512 .f32) (harg13 : arg13.IsWhole)

set_option maxHeartbeats 0 in
/-- The pieces the first loop writes. -/
theorem pb1_eq (hc : k0_cond1 i = 1#1) (X2 : BufTy.Contents (Elt F) arg2.view.ty) (n : ℕ) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 hc perm X2 n = xpPieces (arg2.view.read (Elt F) X2) n := by
  induction n with
  | zero => rfl
  | succ n ih =>
    rw [xpPieces, ← ih]
    by_cases h : n < k0_t1_loop.trips
    · rw [dif_pos h]
      refine (pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 hc perm X2 ⟨n, h⟩).trans ?_
      unfold tripL_k0_t1 trip_k0_t1
      rfl
    · rw [dif_neg h, pb_k0_t1.eq_2]; unfold pb_k0_t1Step; exact dif_neg h

/-- The accumulator after the second loop's trips before `n`. -/
theorem pb2_acc (X3 : BufTy.Contents (Elt F) arg3.view.ty) (X9 : BufTy.Contents (Elt F) arg9.view.ty)
    (X11 : BufTy.Contents (Elt F) arg11.view.ty) (G12 : BufTy.Contents (Elt F) arg12.view.ty)
    (G13 : BufTy.Contents (Elt F) arg13.view.ty) (v203 v240 v241 : IVec S32x128 32)
    (hth : k0_pay2175 v203 v240 v241 = tblHigh) (n : ℕ) :
    arg13.view.read (Elt F) (arg13.view.writes (Elt F) G13 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 tblLow v203 v240 v241 X3 X9 X11 G12 G13 n).2)
      = accOf (arg9.view.read (Elt F) X9) (arg3.view.read (Elt F) X3) (arg11.view.read (Elt F) X11) (arg13.view.read (Elt F) G13) n := by
  induction n with
  | zero => rfl
  | succ n ih =>
    rw [accOf, ← ih]
    by_cases h : n < k0_t2_loop.trips
    · rw [dif_pos h]
      rw [show pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 tblLow v203 v240 v241 X3 X9 X11 G12 G13 (n + 1) = _ from
        pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 tblLow v203 v240 v241 X3 X9 X11 G12 G13 ⟨n, h⟩]
      rw [tripL_snd, List.cons_append, View.read_writes_full]
      rw [hth]
      have hw : (arg12.view.readCov (chunkPieces tblLow tblHigh k0_pay2176 (arg3.view.read (Elt F) X3) (arg11.view.read (Elt F) X11) ⟨n, h⟩)
            (Rect.unit (s := S2048x512) ![0, 0] S2048x512.size inb_S2048x512_S2048x512_0_0).toLoadRect)
          = wdOf (arg3.view.read (Elt F) X3) (arg11.view.read (Elt F) X11) ⟨n, h⟩ :=
        (View.readAt_full _ _ _).trans (View.read_writes_eq_canon _ _ _ (chunk_covers _ _ _))
      rw [hw]
      refine congrArg (k0_pay2177 _ _) ?_
      exact View.readAt_full arg13.view _ inb_S128x512_S128x512_0_0
    · rw [dif_neg h, pb_k0_t2.eq_2]; unfold pb_k0_t2Step; rw [dif_neg h]

end loops

end Cert.Kernel.Hand

end
-- ==== Proof.Kernel.Body.lean ====
/- One run of the kernel's body, at any floats: from the blocks it reads and, after the first grid
   point, the reordered `x` and the low-rank part, it leaves both in their scratch buffers and the
   tile `outOf` of them in the output block. -/
module

public import proofs.«01_k».proof.Proof.Kernel.Values

@[expose] public section

noncomputable section

namespace Cert.Kernel.Hand

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Cert.Kernel Cert.Kernel.Gen

variable {F : FTy → Type} [FloatOps F]

local notation "𝕄G" => MT nD τ sig Unit (Elt F) ℕ (UR sig nD τ) ℕ

variable (𝒱₀ : Variants) (c : Dev nD) (i : grid0.Coords)
  (arg1 : Memref sig .tc .smem S1 .f32) (harg1 : arg1.IsWhole)
  (arg2 : Memref sig .tc .vmem S128x16384 .bf16) (harg2 : arg2.IsWhole)
  (arg3 : Memref sig .tc .vmem S512x8192 .i8) (harg3 : arg3.IsWhole)
  (arg4 : Memref sig .tc .vmem S512x256 .i8) (harg4 : arg4.IsWhole)
  (arg5 : Memref sig .tc .vmem S1x512 .f32) (harg5 : arg5.IsWhole)
  (arg6 : Memref sig .tc .vmem S16x16384 .bf16) (harg6 : arg6.IsWhole)
  (arg7 : Memref sig .tc .vmem S16x512 .bf16) (harg7 : arg7.IsWhole)
  (arg8 : Memref sig .tc .vmem S128x512 .bf16) (harg8 : arg8.IsWhole)
  (arg9 : Memref sig .tc .vmem S128x16384 .bf16) (harg9 : arg9.IsWhole)
  (arg10 : Memref sig .tc .vmem S128x16 .bf16) (harg10 : arg10.IsWhole)
  (arg11 : Memref sig .tc .vmem S8x32x512 .f32) (harg11 : arg11.IsWhole)
  (arg12 : Memref sig .tc .vmem S2048x512 .bf16) (harg12 : arg12.IsWhole)
  (arg13 : Memref sig .tc .vmem S128x512 .f32) (harg13 : arg13.IsWhole)
  (f1 : BufTy.Contents (Elt F) arg1.view.ty)
  (f2 : BufTy.Contents (Elt F) arg2.view.ty)
  (f3 : BufTy.Contents (Elt F) arg3.view.ty)
  (f4 : BufTy.Contents (Elt F) arg4.view.ty)
  (f5 : BufTy.Contents (Elt F) arg5.view.ty)
  (f6 : BufTy.Contents (Elt F) arg6.view.ty)
  (f7 : BufTy.Contents (Elt F) arg7.view.ty)
  (f8 : BufTy.Contents (Elt F) arg8.view.ty)
  (f9 : BufTy.Contents (Elt F) arg9.view.ty)
  (f10 : BufTy.Contents (Elt F) arg10.view.ty)
  (f11 : BufTy.Contents (Elt F) arg11.view.ty)
  (f12 : BufTy.Contents (Elt F) arg12.view.ty)
  (f13 : BufTy.Contents (Elt F) arg13.view.ty)

/-- The accumulator's last load, given what the scratch buffers held when the second loop began. -/
theorem out_of (bd : Option 𝒱₀.V) (Y9 : BufTy.Contents (Elt F) arg9.view.ty) (Y11 : BufTy.Contents (Elt F) arg11.view.ty)
    (G13 G : BufTy.Contents (Elt F) arg13.view.ty) (l0 : List (View.Piece (Elt F) S128x512 .f32))
    (v200 v203 v240 v241 : IVec S32x128 32)
    (Xp : Vec F S128x16384 .bf16) (Lo : Vec F S128x16 .bf16)
    (htl : v200 = tblLow) (hth : k0_pay2175 v203 v240 v241 = tblHigh) (h9 : arg9.view.read (Elt F) Y9 = Xp)
    (h11 : arg11.view.read (Elt F) Y11
      = amOf (arg5.view.read (Elt F) f5) (offOf (arg1.view.read (Elt F) f1)) (arg4.view.read (Elt F) f4))
    (hG : G = arg13.view.writes (Elt F) G13 l0)
    (h13 : arg13.view.read (Elt F) G = k0_pay2167 Lo (arg7.view.read (Elt F) f7)) :
    k0_pay2178 (View.readAt (Elt F) arg13.view (Rect.unit (s := S128x512) ![0, 0] S128x512.size inb_S128x512_S128x512_0_0).toLoadRect
        (arg13.view.writes (Elt F) G13
          ((pb_k0_t2 (F := F) 𝒱₀ c bd i arg1 harg1 arg2 harg2 arg3 harg3 arg4 harg4 arg5 harg5 arg6 harg6 arg7 harg7 arg8 harg8 arg9 harg9 arg10 harg10 arg11 harg11 arg12 harg12 arg13 harg13 v200 v203 v240 v241 f3 Y9 Y11 f12 G k0_t2_loop.trips).2 ++ l0)))
      = outOf Xp Lo (arg1.view.read (Elt F) f1) (arg3.view.read (Elt F) f3) (arg4.view.read (Elt F) f4)
          (arg5.view.read (Elt F) f5) (arg7.view.read (Elt F) f7) := by
  subst htl
  rw [View.writes_append, ← hG]
  refine congrArg k0_pay2178 ((View.readAt_full arg13.view _ inb_S128x512_S128x512_0_0).trans ?_)
  rw [pb2_acc 𝒱₀ c bd i arg1 harg1 arg2 harg2 arg3 harg3 arg4 harg4 arg5 harg5 arg6 harg6 arg7 harg7 arg8 harg8 arg9 harg9 arg10 harg10 arg11 harg11 arg12 harg12 arg13 harg13 f3 Y9 Y11 f12 G v203 v240 v241 hth, h9, h11, h13]

/-- The eight stores of the scales leave all of them. -/
theorem am_eq (Y : BufTy.Contents (Elt F) arg11.view.ty) :
    arg11.view.read (Elt F) (arg11.view.writes (Elt F) Y (amPieces (View.readAt (Elt F) arg5.view (Rect.unit (s := S1x512) ![0, 0] S1x512.size inb_S1x512_S1x512_0_0).toLoadRect f5)
        (offOf (arg1.view.read (Elt F) f1)) (arg4.view.read (Elt F) f4)))
      = amOf (arg5.view.read (Elt F) f5) (offOf (arg1.view.read (Elt F) f1)) (arg4.view.read (Elt F) f4) := by
  rw [show View.readAt (Elt F) arg5.view (Rect.unit (s := S1x512) ![0, 0] S1x512.size inb_S1x512_S1x512_0_0).toLoadRect f5
      = arg5.view.read (Elt F) f5 from View.readAt_full arg5.view _ inb_S1x512_S1x512_0_0]
  exact View.read_writes_eq_canon _ _ _ (am_covers _ _ _)

/-- What the second loop starts from. -/
theorem acc0_eq (Y : BufTy.Contents (Elt F) arg13.view.ty) (Lv Lo : Vec F S128x16 .bf16) (h : Lv = Lo) :
    arg13.view.read (Elt F) (arg13.view.writes (Elt F) Y [⟨Rect.unit (s := S128x512) ![0, 0] S128x512.size inb_S128x512_S128x512_0_0,
        k0_pay2167 Lv (View.readAt (Elt F) arg7.view (Rect.unit (s := S16x512) ![0, 0] S16x512.size inb_S16x512_S16x512_0_0).toLoadRect f7)⟩])
      = k0_pay2167 Lo (arg7.view.read (Elt F) f7) := by
  subst h
  rw [View.read_writes_full]
  exact congrArg (k0_pay2167 Lv) (View.readAt_full arg7.view _ inb_S16x512_S16x512_0_0)

/-- The first loop leaves the reordered `x`. -/
theorem xp_eq (bd : Option 𝒱₀.V) (hc : k0_cond1 i = 1#1) (p : FVec F S256x256 .bf16) (hp : p = perm) (Y : BufTy.Contents (Elt F) arg9.view.ty)
    (Xp : Vec F S128x16384 .bf16) (hXp : xpOf (arg2.view.read (Elt F) f2) = Xp) :
    arg9.view.read (Elt F) (arg9.view.writes (Elt F) Y (pb_k0_t1 (F := F) 𝒱₀ c bd i arg1 harg1 arg2 harg2 arg3 harg3 arg4 harg4 arg5 harg5 arg6 harg6 arg7 harg7 arg8 harg8 arg9 harg9 arg10 harg10 arg11 harg11 arg12 harg12 arg13 harg13 hc p f2 k0_t1_loop.trips)) = Xp := by
  subst hp
  rw [pb1_eq, ← hXp]
  exact View.read_writes_eq_canon _ _ _ (xp_covers _)

/-- The low-rank part, stored. -/
theorem low_eq (Y : BufTy.Contents (Elt F) arg10.view.ty) (Lo : Vec F S128x16 .bf16)
    (hLo : lowOf (arg2.view.read (Elt F) f2) (arg6.view.read (Elt F) f6) = Lo) :
    arg10.view.read (Elt F) (arg10.view.writes (Elt F) Y [⟨Rect.unit (s := S128x16) ![0, 0] S128x16.size inb_S128x16_S128x16_0_0,
        k0_pay2156 (View.readAt (Elt F) arg2.view (Rect.unit (s := S128x16384) ![0, 0] S128x16384.size inb_S128x16384_S128x16384_0_0).toLoadRect f2)
          (View.readAt (Elt F) arg6.view (Rect.unit (s := S16x16384) ![0, 0] S16x16384.size inb_S16x16384_S16x16384_0_0).toLoadRect f6)⟩])
      = Lo := by
  rw [View.read_writes_full, ← hLo]
  exact congrArg₂ k0_pay2156 (View.readAt_full arg2.view _ inb_S128x16384_S128x16384_0_0) (View.readAt_full arg6.view _ inb_S16x16384_S16x16384_0_0)

set_option maxHeartbeats 0 in
/-- A run after the first grid point. -/
theorem run_later (hc : ¬ k0_cond1 i = 1#1) (Xp : Vec F S128x16384 .bf16) (Lo : Vec F S128x16 .bf16)
    (h9 : arg9.view.read (Elt F) f9 = Xp) (h10 : arg10.view.read (Elt F) f10 = Lo) :
    (iprop((arg1.view.loc (c : Thread nD τ) ↦[arg1.view.set]{fullShare} f1) ∗
    (arg2.view.loc (c : Thread nD τ) ↦[arg2.view.set]{fullShare} f2) ∗
    (arg3.view.loc (c : Thread nD τ) ↦[arg3.view.set]{fullShare} f3) ∗
    (arg4.view.loc (c : Thread nD τ) ↦[arg4.view.set]{fullShare} f4) ∗
    (arg5.view.loc (c : Thread nD τ) ↦[arg5.view.set]{fullShare} f5) ∗
    (arg6.view.loc (c : Thread nD τ) ↦[arg6.view.set]{fullShare} f6) ∗
    (arg7.view.loc (c : Thread nD τ) ↦[arg7.view.set]{fullShare} f7) ∗
    (arg8.view.loc (c : Thread nD τ) ↦[arg8.view.set]{fullShare} f8) ∗
    (arg9.view.loc (c : Thread nD τ) ↦[arg9.view.set]{fullShare} f9) ∗
    (arg10.view.loc (c : Thread nD τ) ↦[arg10.view.set]{fullShare} f10) ∗
    (arg11.view.loc (c : Thread nD τ) ↦[arg11.view.set]{fullShare} f11) ∗
    (arg12.view.loc (c : Thread nD τ) ↦[arg12.view.set]{fullShare} f12) ∗
    (arg13.view.loc (c : Thread nD τ) ↦[arg13.view.set]{fullShare} f13)) : sProp 𝕄G)
      ⊢ (wp frame (wpE (defs₀ (F := F)) 𝒱₀ (c : Thread nD τ) none) Set.univ
          (cc0_qlora (F := F) i arg1 harg1 arg2 harg2 arg3 harg3 arg4 harg4 arg5 harg5 arg6 harg6 arg7 harg7 arg8 harg8 arg9 harg9 arg10 harg10 arg11 harg11 arg12 harg12 arg13 harg13)
          (fun _ => iprop((arg1.view.loc (c : Thread nD τ) ↦[arg1.view.set]{fullShare} f1) ∗
      (arg2.view.loc (c : Thread nD τ) ↦[arg2.view.set]{fullShare} f2) ∗
      (arg3.view.loc (c : Thread nD τ) ↦[arg3.view.set]{fullShare} f3) ∗
      (arg4.view.loc (c : Thread nD τ) ↦[arg4.view.set]{fullShare} f4) ∗
      (arg5.view.loc (c : Thread nD τ) ↦[arg5.view.set]{fullShare} f5) ∗
      (arg6.view.loc (c : Thread nD τ) ↦[arg6.view.set]{fullShare} f6) ∗
      (arg7.view.loc (c : Thread nD τ) ↦[arg7.view.set]{fullShare} f7) ∗
      (∃ g, ⌜arg8.view.read (Elt F) g = outOf Xp Lo (arg1.view.read (Elt F) f1) (arg3.view.read (Elt F) f3) (arg4.view.read (Elt F) f4) (arg5.view.read (Elt F) f5) (arg7.view.read (Elt F) f7)⌝ ∗ (arg8.view.loc (c : Thread nD τ) ↦[arg8.view.set]{fullShare} g)) ∗
      (∃ g, ⌜arg9.view.read (Elt F) g = Xp⌝ ∗ (arg9.view.loc (c : Thread nD τ) ↦[arg9.view.set]{fullShare} g)) ∗
      (∃ g, ⌜arg10.view.read (Elt F) g = Lo⌝ ∗ (arg10.view.loc (c : Thread nD τ) ↦[arg10.view.set]{fullShare} g)) ∗
      (∃ g, (arg11.view.loc (c : Thread nD τ) ↦[arg11.view.set]{fullShare} g)) ∗
      (∃ g, (arg12.view.loc (c : Thread nD τ) ↦[arg12.view.set]{fullShare} g)) ∗
      (∃ g, (arg13.view.loc (c : Thread nD τ) ↦[arg13.view.set]{fullShare} g)))) : sProp 𝕄G) := by
  simp only [cc0_qlora_eq_skeleton]; unfold cc0_qlora_skel
  iintro ⟨H1, H2, H3, H4, H5, H6, H7, H8, H9, H10, H11, H12, H13⟩
  sl_exec (disch := sl_exact hc)
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr
    swap; · iexact H8
    ipureintro
    refine (View.read_writes_full _ _ _ _ _).trans ?_
    exact out_of 𝒱₀ c i arg1 harg1 arg2 harg2 arg3 harg3 arg4 harg4 arg5 harg5 arg6 harg6 arg7 harg7 arg8 harg8 arg9 harg9 arg10 harg10 arg11 harg11 arg12 harg12 arg13 harg13 f1 f3 f4 f5 f7 f12 none _ _ _ _ _ _ _ _ _ Xp Lo rfl rfl h9
      (am_eq arg1 arg4 arg5 arg11 f1 f4 f5 _) rfl (acc0_eq arg7 arg13 f7 _ _ Lo ((View.readAt_full arg10.view _ inb_S128x16_S128x16_0_0).trans h10))
  isplitl [H9]
  · iexists _; isplitr
    swap; · iexact H9
    ipureintro
    exact h9
  isplitl [H10]
  · iexists _; isplitr
    swap; · iexact H10
    ipureintro
    exact h10
  isplitl [H11]; · (iexists _; iexact H11)
  isplitl [H12]; · (iexists _; iexact H12)
  iexists _; iexact H13
set_option maxHeartbeats 0 in
/-- The run at the first grid point: it fills the reordered `x` and the low-rank part. -/
theorem run_first (hc : k0_cond1 i = 1#1) (Xp : Vec F S128x16384 .bf16) (Lo : Vec F S128x16 .bf16)
    (hXp : xpOf (arg2.view.read (Elt F) f2) = Xp) (hLo : lowOf (arg2.view.read (Elt F) f2) (arg6.view.read (Elt F) f6) = Lo) :
    (iprop((arg1.view.loc (c : Thread nD τ) ↦[arg1.view.set]{fullShare} f1) ∗
    (arg2.view.loc (c : Thread nD τ) ↦[arg2.view.set]{fullShare} f2) ∗
    (arg3.view.loc (c : Thread nD τ) ↦[arg3.view.set]{fullShare} f3) ∗
    (arg4.view.loc (c : Thread nD τ) ↦[arg4.view.set]{fullShare} f4) ∗
    (arg5.view.loc (c : Thread nD τ) ↦[arg5.view.set]{fullShare} f5) ∗
    (arg6.view.loc (c : Thread nD τ) ↦[arg6.view.set]{fullShare} f6) ∗
    (arg7.view.loc (c : Thread nD τ) ↦[arg7.view.set]{fullShare} f7) ∗
    (arg8.view.loc (c : Thread nD τ) ↦[arg8.view.set]{fullShare} f8) ∗
    (arg9.view.loc (c : Thread nD τ) ↦[arg9.view.set]{fullShare} f9) ∗
    (arg10.view.loc (c : Thread nD τ) ↦[arg10.view.set]{fullShare} f10) ∗
    (arg11.view.loc (c : Thread nD τ) ↦[arg11.view.set]{fullShare} f11) ∗
    (arg12.view.loc (c : Thread nD τ) ↦[arg12.view.set]{fullShare} f12) ∗
    (arg13.view.loc (c : Thread nD τ) ↦[arg13.view.set]{fullShare} f13)) : sProp 𝕄G)
      ⊢ (wp frame (wpE (defs₀ (F := F)) 𝒱₀ (c : Thread nD τ) none) Set.univ
          (cc0_qlora (F := F) i arg1 harg1 arg2 harg2 arg3 harg3 arg4 harg4 arg5 harg5 arg6 harg6 arg7 harg7 arg8 harg8 arg9 harg9 arg10 harg10 arg11 harg11 arg12 harg12 arg13 harg13)
          (fun _ => iprop((arg1.view.loc (c : Thread nD τ) ↦[arg1.view.set]{fullShare} f1) ∗
      (arg2.view.loc (c : Thread nD τ) ↦[arg2.view.set]{fullShare} f2) ∗
      (arg3.view.loc (c : Thread nD τ) ↦[arg3.view.set]{fullShare} f3) ∗
      (arg4.view.loc (c : Thread nD τ) ↦[arg4.view.set]{fullShare} f4) ∗
      (arg5.view.loc (c : Thread nD τ) ↦[arg5.view.set]{fullShare} f5) ∗
      (arg6.view.loc (c : Thread nD τ) ↦[arg6.view.set]{fullShare} f6) ∗
      (arg7.view.loc (c : Thread nD τ) ↦[arg7.view.set]{fullShare} f7) ∗
      (∃ g, ⌜arg8.view.read (Elt F) g = outOf Xp Lo (arg1.view.read (Elt F) f1) (arg3.view.read (Elt F) f3) (arg4.view.read (Elt F) f4) (arg5.view.read (Elt F) f5) (arg7.view.read (Elt F) f7)⌝ ∗ (arg8.view.loc (c : Thread nD τ) ↦[arg8.view.set]{fullShare} g)) ∗
      (∃ g, ⌜arg9.view.read (Elt F) g = Xp⌝ ∗ (arg9.view.loc (c : Thread nD τ) ↦[arg9.view.set]{fullShare} g)) ∗
      (∃ g, ⌜arg10.view.read (Elt F) g = Lo⌝ ∗ (arg10.view.loc (c : Thread nD τ) ↦[arg10.view.set]{fullShare} g)) ∗
      (∃ g, (arg11.view.loc (c : Thread nD τ) ↦[arg11.view.set]{fullShare} g)) ∗
      (∃ g, (arg12.view.loc (c : Thread nD τ) ↦[arg12.view.set]{fullShare} g)) ∗
      (∃ g, (arg13.view.loc (c : Thread nD τ) ↦[arg13.view.set]{fullShare} g)))) : sProp 𝕄G) := by
  simp only [cc0_qlora_eq_skeleton]; unfold cc0_qlora_skel
  iintro ⟨H1, H2, H3, H4, H5, H6, H7, H8, H9, H10, H11, H12, H13⟩
  sl_exec (disch := sl_exact hc)
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr
    swap; · iexact H8
    ipureintro
    refine (View.read_writes_full _ _ _ _ _).trans ?_
    exact out_of 𝒱₀ c i arg1 harg1 arg2 harg2 arg3 harg3 arg4 harg4 arg5 harg5 arg6 harg6 arg7 harg7 arg8 harg8 arg9 harg9 arg10 harg10 arg11 harg11 arg12 harg12 arg13 harg13 f1 f3 f4 f5 f7 f12 none _ _ _ _ _ _ _ _ _ Xp Lo rfl rfl (xp_eq 𝒱₀ c i arg1 harg1 arg2 harg2 arg3 harg3 arg4 harg4 arg5 harg5 arg6 harg6 arg7 harg7 arg8 harg8 arg9 harg9 arg10 harg10 arg11 harg11 arg12 harg12 arg13 harg13 f2 none hc _ rfl _ Xp hXp)
      (am_eq arg1 arg4 arg5 arg11 f1 f4 f5 _) rfl (acc0_eq arg7 arg13 f7 _ _ Lo ((View.readAt_full arg10.view _ inb_S128x16_S128x16_0_0).trans (low_eq arg2 arg6 arg10 f2 f6 _ Lo hLo)))
  isplitl [H9]
  · iexists _; isplitr
    swap; · iexact H9
    ipureintro
    exact xp_eq 𝒱₀ c i arg1 harg1 arg2 harg2 arg3 harg3 arg4 harg4 arg5 harg5 arg6 harg6 arg7 harg7 arg8 harg8 arg9 harg9 arg10 harg10 arg11 harg11 arg12 harg12 arg13 harg13 f2 none hc _ rfl _ Xp hXp
  isplitl [H10]
  · iexists _; isplitr
    swap; · iexact H10
    ipureintro
    exact low_eq arg2 arg6 arg10 f2 f6 _ Lo hLo
  isplitl [H11]; · (iexists _; iexact H11)
  isplitl [H12]; · (iexists _; iexact H12)
  iexists _; iexact H13

end Cert.Kernel.Hand

end
-- ==== Proof.Kernel.Run.lean ====
/- The whole run, at any floats: what every window's staging buffer and the scratch buffers hold
   after each grid point, the body's obligation from the two runs of `Body`, and the program's run. -/
module

public import proofs.«01_k».proof.Proof.Kernel.Body

@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- The program has no loop with a variant. -/
abbrev 𝒱₀ : Variants := Variants.none

/-- The first grid point. -/
def t0 : Fin cfg0.N := ⟨0, by decide⟩

/-- The reordered `x`, from `x` as the first point finds it. -/
def xpAll (c : Dev nD) : Vec F S128x16384 .bf16 := xpOf (iblk m c 1 t0)
/-- The low-rank part, from `x` and its factor as the first point finds them. -/
def lowAll (c : Dev nD) : Vec F S128x16 .bf16 := lowOf (iblk m c 1 t0) (iblk m c 5 t0)
/-- The tile point `t` stores. -/
def outAt (c : Dev nD) (t : Fin cfg0.N) : Vec F S128x512 .bf16 :=
  outOf (xpAll m c) (lowAll m c) (iblk m c 0 t) (iblk m c 2 t) (iblk m c 3 t) (iblk m c 4 t) (iblk m c 6 t)

/-- Between points after the first: the reordered `x` and the low-rank part are in their buffers. -/
def kept (c : Dev nD) : sProp 𝕄G :=
  iprop((owns (c : Thread nD τ) (Memref.whole cc0_scratch0) fullShare (xpAll m c)
    ∗ owns (c : Thread nD τ) (Memref.whole cc0_scratch1) fullShare (lowAll m c)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))
    ∗ ∃ r, prngReg c r)

/-- What each staging buffer holds after each point. -/
def afterAt (c : Dev nD) (w : Fin cfg0.W) (t : Fin cfg0.N) : (cfg0.win w).block.Idx → Elt F (cfg0.win w).elt :=
  match w with
  | 0 => iblk m c 0 t
  | 1 => iblk m c 1 t
  | 2 => iblk m c 2 t
  | 3 => iblk m c 3 t
  | 4 => iblk m c 4 t
  | 5 => iblk m c 5 t
  | 6 => iblk m c 6 t
  | 7 => outAt m c t
  | ⟨n + 8, h⟩ => absurd h (Nat.not_lt.2 (Nat.le_add_left _ _))

/-- The proof data. -/
def dats (_ : Fin 1) (c : Dev nD) : Dat τ (Elt F) Unit ℕ (UR sig nD τ) ℕ cfg0 c where
  A w := V m c (Pipeline.arrRef spec0 w)
  after := afterAt m c
  Φ t := if t.val = 0 then Pipeline.ΦA spec0 c else kept m c
  q _ := fullShare
  owed _ := 0

theorem Φ_at (c : Dev nD) (t : Fin (cfg0.N + 1)) :
    (dats m 0 c).Φ t = if t.val = 0 then Pipeline.ΦA spec0 c else kept m c := rfl

theorem Φ_start (c : Dev nD) (t : Fin cfg0.N) :
    (dats m 0 c).Φ t.castSucc = if t.val = 0 then Pipeline.ΦA spec0 c else kept m c :=
  Dat.Φ_castSucc (fun n _ => if n = 0 then Pipeline.ΦA spec0 c else kept m c) t

theorem Φ_end (c : Dev nD) (t : Fin cfg0.N) : (dats m 0 c).Φ t.succ = kept m c := by
  rw [Φ_at]; exact if_neg (Nat.succ_ne_zero _)

theorem kept_to (c : Dev nD) : kept m c ⊢ (Pipeline.ΦA spec0 c : sProp 𝕄G) := by
  unfold kept Pipeline.ΦA
  rw [scopedRest0_eq, owns_whole_eq, owns_whole_eq]
  iintro ⟨⟨⟨%f0, %h0, H0⟩, ⟨%f1, %h1, H1⟩, H2, H3, H4⟩, Hr⟩
  isplitr [Hr]
  swap; · iexact Hr
  isplitl [H0]; · (iexists _; iexact H0)
  isplitl [H1]; · (iexists _; iexact H1)
  isplitl [H2]; · iexact H2
  isplitl [H3]; · iexact H3
  iexact H4

theorem whole_pt (c : Dev nD) (b : Ref sig .tc) (f : Buf (Elt F) ((c : Thread nD τ).loc b)) :
    (((Memref.whole b).view.loc (c : Thread nD τ) ↦[(Memref.whole b).view.set]{fullShare} f) : sProp 𝕄G)
      = (((c : Thread nD τ).loc b) ↦{fullShare} f) := by
  simp only [Memref.view_whole, View.set_whole]

theorem whole_in (c : Dev nD) (b : Ref sig .tc) (f : Buf (Elt F) ((c : Thread nD τ).loc b)) :
    (((c : Thread nD τ).loc b) ↦{fullShare} f : sProp 𝕄G)
      ⊢ ((Memref.whole b).view.loc (c : Thread nD τ) ↦[(Memref.whole b).view.set]{fullShare} f) := by rw [whole_pt]

theorem whole_out (c : Dev nD) (b : Ref sig .tc) (f : Buf (Elt F) ((c : Thread nD τ).loc b)) :
    ((Memref.whole b).view.loc (c : Thread nD τ) ↦[(Memref.whole b).view.set]{fullShare} f : sProp 𝕄G)
      ⊢ (((c : Thread nD τ).loc b) ↦{fullShare} f) := by rw [whole_pt]

/-- The first point's condition. -/
theorem first_iff : ∀ t : Fin cfg0.N, k0_cond1 (grid0.coords t) = 1#1 ↔ t.val = 0 := by decide

set_option maxHeartbeats 0 in
theorem sound_first (c : Dev nD) (t : Fin cfg0.N) (ht : t.val = 0) :
    (iprop((dats m 0 c).Φ t.castSucc ∗ (dats m 0 c).owesAt () t.castSucc ∗
    (∃ d, owns (c : Thread nD τ) (st0_0 t) fullShare ((dats m 0 c).before 0 t d)) ∗
    (∃ d, owns (c : Thread nD τ) (st0_1 t) fullShare ((dats m 0 c).before 1 t d)) ∗
    (∃ d, owns (c : Thread nD τ) (st0_2 t) fullShare ((dats m 0 c).before 2 t d)) ∗
    (∃ d, owns (c : Thread nD τ) (st0_3 t) fullShare ((dats m 0 c).before 3 t d)) ∗
    (∃ d, owns (c : Thread nD τ) (st0_4 t) fullShare ((dats m 0 c).before 4 t d)) ∗
    (∃ d, owns (c : Thread nD τ) (st0_5 t) fullShare ((dats m 0 c).before 5 t d)) ∗
    (∃ d, owns (c : Thread nD τ) (st0_6 t) fullShare ((dats m 0 c).before 6 t d)) ∗
    (∃ d, owns (c : Thread nD τ) (st0_7 t) fullShare ((dats m 0 c).before 7 t d))) : sProp 𝕄G)
      ⊢ (wp frame (wpE (defs₀ (F := F)) 𝒱₀ (c : Thread nD τ) none) Set.univ (bodyAt0 t)
        (fun _ => iprop((dats m 0 c).Φ t.succ ∗ (dats m 0 c).owesAt () t.succ ∗
      owns (c : Thread nD τ) (st0_0 t) fullShare ((dats m 0 c).after 0 t) ∗
      owns (c : Thread nD τ) (st0_1 t) fullShare ((dats m 0 c).after 1 t) ∗
      owns (c : Thread nD τ) (st0_2 t) fullShare ((dats m 0 c).after 2 t) ∗
      owns (c : Thread nD τ) (st0_3 t) fullShare ((dats m 0 c).after 3 t) ∗
      owns (c : Thread nD τ) (st0_4 t) fullShare ((dats m 0 c).after 4 t) ∗
      owns (c : Thread nD τ) (st0_5 t) fullShare ((dats m 0 c).after 5 t) ∗
      owns (c : Thread nD τ) (st0_6 t) fullShare ((dats m 0 c).after 6 t) ∗
      owns (c : Thread nD τ) (st0_7 t) fullShare ((dats m 0 c).after 7 t))) : sProp 𝕄G) := by
  rw [Φ_start, Φ_end, show (dats m 0 c).owesAt () t.succ = (dats m 0 c).owesAt () t.castSucc from rfl]
  rw [if_pos ht]; unfold Pipeline.ΦA; rw [scopedRest0_eq]
  unfold owns
  iintro ⟨⟨⟨⟨%g0, S0⟩, ⟨%g1, S1⟩, ⟨%g2, S2⟩, ⟨%g3, S3⟩, ⟨%g4, S4⟩⟩, Hr⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩⟩
  replace h0 := h0.trans (before0_0_of m (dats m 0 c) rfl (fun _ => rfl) t d0)
  replace h1 := h1.trans (before0_1_of m (dats m 0 c) rfl (fun _ => rfl) t d1)
  replace h2 := h2.trans (before0_2_of m (dats m 0 c) rfl (fun _ => rfl) t d2)
  replace h3 := h3.trans (before0_3_of m (dats m 0 c) rfl (fun _ => rfl) t d3)
  replace h4 := h4.trans (before0_4_of m (dats m 0 c) rfl (fun _ => rfl) t d4)
  replace h5 := h5.trans (before0_5_of m (dats m 0 c) rfl (fun _ => rfl) t d5)
  replace h6 := h6.trans (before0_6_of m (dats m 0 c) rfl (fun _ => rfl) t d6)
  have hout : outOf (xpAll m c) (lowAll m c) ((st0_0 t).view.read (Elt F) f0) ((st0_2 t).view.read (Elt F) f2) ((st0_3 t).view.read (Elt F) f3)
      ((st0_4 t).view.read (Elt F) f4) ((st0_6 t).view.read (Elt F) f6) = (dats m 0 c).after 7 t := by
    rw [h0, h2, h3, h4, h6]; rfl
  have htt : t = t0 := Fin.ext ht
  have hX : xpOf ((st0_1 t).view.read (Elt F) f1) = xpAll m c := by rw [h1, htt]; rfl
  have hL : lowOf ((st0_1 t).view.read (Elt F) f1) ((st0_5 t).view.read (Elt F) f5) = lowAll m c := by rw [h1, h5, htt]; rfl
  iapply (wp_wand_r frame (wpE (defs₀ (F := F)) 𝒱₀ (c : Thread nD τ) none) Set.univ)
  isplitl [H0 H1 H2 H3 H4 H5 H6 H7 S0 S1 S2 S3 S4]
  · iapply (run_first (F := F) 𝒱₀ c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f0 f1 f2 f3 f4 f5 f6 f7 g0 g1 g2 g3 g4 ((first_iff t).2 ht) (xpAll m c) (lowAll m c) hX hL)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · (iapply (whole_in c cc0_scratch0 g0); iexact S0)
    isplitl [S1]; · (iapply (whole_in c cc0_scratch1 g1); iexact S1)
    isplitl [S2]; · (iapply (whole_in c cc0_scratch2 g2); iexact S2)
    isplitl [S3]; · (iapply (whole_in c cc0_scratch3 g3); iexact S3)
    iapply (whole_in c cc0_scratch4 g4); iexact S4
  iintro %a ⟨H0, H1, H2, H3, H4, H5, H6, ⟨%f8, %h8, H7⟩, ⟨%k0, %e0, S0⟩, ⟨%k1, %e1, S1⟩, ⟨%k2, S2⟩, ⟨%k3, S3⟩, ⟨%k4, S4⟩⟩
  isplitl [S0 S1 S2 S3 S4 Hr]
  · unfold kept
    isplitr [Hr]
    swap; · iexact Hr
    isplitl [S0]
    · unfold owns; iexists _; isplitr
      swap; · iexact S0
      ipureintro; exact e0
    isplitl [S1]
    · unfold owns; iexists _; isplitr
      swap; · iexact S1
      ipureintro; exact e1
    isplitl [S2]; · (iexists _; iapply (whole_out c cc0_scratch2 k2); iexact S2)
    isplitl [S3]; · (iexists _; iapply (whole_out c cc0_scratch3 k3); iexact S3)
    iexists _; iapply (whole_out c cc0_scratch4 k4); iexact S4
  isplitl [Ho]; · iexact Ho
  isplitl [H0]
  · iexists _; isplitr
    swap; · iexact H0
    ipureintro; exact h0
  isplitl [H1]
  · iexists _; isplitr
    swap; · iexact H1
    ipureintro; exact h1
  isplitl [H2]
  · iexists _; isplitr
    swap; · iexact H2
    ipureintro; exact h2
  isplitl [H3]
  · iexists _; isplitr
    swap; · iexact H3
    ipureintro; exact h3
  isplitl [H4]
  · iexists _; isplitr
    swap; · iexact H4
    ipureintro; exact h4
  isplitl [H5]
  · iexists _; isplitr
    swap; · iexact H5
    ipureintro; exact h5
  isplitl [H6]
  · iexists _; isplitr
    swap; · iexact H6
    ipureintro; exact h6
  iexists _; isplitr
  swap; · iexact H7
  ipureintro; exact (h8.trans hout)

set_option maxHeartbeats 0 in
theorem sound_later (c : Dev nD) (t : Fin cfg0.N) (ht : t.val ≠ 0) :
    (iprop((dats m 0 c).Φ t.castSucc ∗ (dats m 0 c).owesAt () t.castSucc ∗
    (∃ d, owns (c : Thread nD τ) (st0_0 t) fullShare ((dats m 0 c).before 0 t d)) ∗
    (∃ d, owns (c : Thread nD τ) (st0_1 t) fullShare ((dats m 0 c).before 1 t d)) ∗
    (∃ d, owns (c : Thread nD τ) (st0_2 t) fullShare ((dats m 0 c).before 2 t d)) ∗
    (∃ d, owns (c : Thread nD τ) (st0_3 t) fullShare ((dats m 0 c).before 3 t d)) ∗
    (∃ d, owns (c : Thread nD τ) (st0_4 t) fullShare ((dats m 0 c).before 4 t d)) ∗
    (∃ d, owns (c : Thread nD τ) (st0_5 t) fullShare ((dats m 0 c).before 5 t d)) ∗
    (∃ d, owns (c : Thread nD τ) (st0_6 t) fullShare ((dats m 0 c).before 6 t d)) ∗
    (∃ d, owns (c : Thread nD τ) (st0_7 t) fullShare ((dats m 0 c).before 7 t d))) : sProp 𝕄G)
      ⊢ (wp frame (wpE (defs₀ (F := F)) 𝒱₀ (c : Thread nD τ) none) Set.univ (bodyAt0 t)
        (fun _ => iprop((dats m 0 c).Φ t.succ ∗ (dats m 0 c).owesAt () t.succ ∗
      owns (c : Thread nD τ) (st0_0 t) fullShare ((dats m 0 c).after 0 t) ∗
      owns (c : Thread nD τ) (st0_1 t) fullShare ((dats m 0 c).after 1 t) ∗
      owns (c : Thread nD τ) (st0_2 t) fullShare ((dats m 0 c).after 2 t) ∗
      owns (c : Thread nD τ) (st0_3 t) fullShare ((dats m 0 c).after 3 t) ∗
      owns (c : Thread nD τ) (st0_4 t) fullShare ((dats m 0 c).after 4 t) ∗
      owns (c : Thread nD τ) (st0_5 t) fullShare ((dats m 0 c).after 5 t) ∗
      owns (c : Thread nD τ) (st0_6 t) fullShare ((dats m 0 c).after 6 t) ∗
      owns (c : Thread nD τ) (st0_7 t) fullShare ((dats m 0 c).after 7 t))) : sProp 𝕄G) := by
  rw [Φ_start, Φ_end, show (dats m 0 c).owesAt () t.succ = (dats m 0 c).owesAt () t.castSucc from rfl]
  rw [if_neg ht]; conv_lhs => unfold kept
  unfold owns
  iintro ⟨⟨⟨⟨%g0, %e0, S0⟩, ⟨%g1, %e1, S1⟩, ⟨%g2, S2⟩, ⟨%g3, S3⟩, ⟨%g4, S4⟩⟩, Hr⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩⟩
  replace h0 := h0.trans (before0_0_of m (dats m 0 c) rfl (fun _ => rfl) t d0)
  replace h1 := h1.trans (before0_1_of m (dats m 0 c) rfl (fun _ => rfl) t d1)
  replace h2 := h2.trans (before0_2_of m (dats m 0 c) rfl (fun _ => rfl) t d2)
  replace h3 := h3.trans (before0_3_of m (dats m 0 c) rfl (fun _ => rfl) t d3)
  replace h4 := h4.trans (before0_4_of m (dats m 0 c) rfl (fun _ => rfl) t d4)
  replace h5 := h5.trans (before0_5_of m (dats m 0 c) rfl (fun _ => rfl) t d5)
  replace h6 := h6.trans (before0_6_of m (dats m 0 c) rfl (fun _ => rfl) t d6)
  have hout : outOf (xpAll m c) (lowAll m c) ((st0_0 t).view.read (Elt F) f0) ((st0_2 t).view.read (Elt F) f2) ((st0_3 t).view.read (Elt F) f3)
      ((st0_4 t).view.read (Elt F) f4) ((st0_6 t).view.read (Elt F) f6) = (dats m 0 c).after 7 t := by
    rw [h0, h2, h3, h4, h6]; rfl
  iapply (wp_wand_r frame (wpE (defs₀ (F := F)) 𝒱₀ (c : Thread nD τ) none) Set.univ)
  isplitl [H0 H1 H2 H3 H4 H5 H6 H7 S0 S1 S2 S3 S4]
  · iapply (run_later (F := F) 𝒱₀ c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f0 f1 f2 f3 f4 f5 f6 f7 g0 g1 g2 g3 g4 (fun h => ht ((first_iff t).1 h)) (xpAll m c) (lowAll m c) e0 e1)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · (iapply (whole_in c cc0_scratch2 g2); iexact S2)
    isplitl [S3]; · (iapply (whole_in c cc0_scratch3 g3); iexact S3)
    iapply (whole_in c cc0_scratch4 g4); iexact S4
  iintro %a ⟨H0, H1, H2, H3, H4, H5, H6, ⟨%f8, %h8, H7⟩, ⟨%k0, %e0, S0⟩, ⟨%k1, %e1, S1⟩, ⟨%k2, S2⟩, ⟨%k3, S3⟩, ⟨%k4, S4⟩⟩
  isplitl [S0 S1 S2 S3 S4 Hr]
  · unfold kept
    isplitr [Hr]
    swap; · iexact Hr
    isplitl [S0]
    · unfold owns; iexists _; isplitr
      swap; · iexact S0
      ipureintro; exact e0
    isplitl [S1]
    · unfold owns; iexists _; isplitr
      swap; · iexact S1
      ipureintro; exact e1
    isplitl [S2]; · (iexists _; iapply (whole_out c cc0_scratch2 k2); iexact S2)
    isplitl [S3]; · (iexists _; iapply (whole_out c cc0_scratch3 k3); iexact S3)
    iexists _; iapply (whole_out c cc0_scratch4 k4); iexact S4
  isplitl [Ho]; · iexact Ho
  isplitl [H0]
  · iexists _; isplitr
    swap; · iexact H0
    ipureintro; exact h0
  isplitl [H1]
  · iexists _; isplitr
    swap; · iexact H1
    ipureintro; exact h1
  isplitl [H2]
  · iexists _; isplitr
    swap; · iexact H2
    ipureintro; exact h2
  isplitl [H3]
  · iexists _; isplitr
    swap; · iexact H3
    ipureintro; exact h3
  isplitl [H4]
  · iexists _; isplitr
    swap; · iexact H4
    ipureintro; exact h4
  isplitl [H5]
  · iexists _; isplitr
    swap; · iexact H5
    ipureintro; exact h5
  isplitl [H6]
  · iexists _; isplitr
    swap; · iexact H6
    ipureintro; exact h6
  iexists _; isplitr
  swap; · iexact H7
  ipureintro; exact (h8.trans hout)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  by_cases ht : t.val = 0
  · exact triple_restated (sound_first m c t ht) rfl .rfl fun _ => .rfl
  · exact triple_restated (sound_later m c t ht) rfl .rfl fun _ => .rfl

/-- The run: every array ends at what the proof data says, and every counter at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ 𝒱₀ m ρ main
    (hbody := fun c => (body_obligation m c).loose)
    (hshare := fun c w => by fin_cases w <;> rfl)
    (howed := fun _ _ => rfl) (V₀ := V0 m) (opss := [hostOps1]) (hsub := sfx_sub) (hfresh := sfx_fresh) (hkeep := sfx_keeps)
    (hmain := hmain m 𝒱₀) (hA := fun _ _ => rfl)
    (hin := fun c => by rw [Φ_at]; exact .rfl)
    (hout := fun c => by rw [Φ_at, if_neg (by decide)]; exact kept_to m c)
    (Q' := _) (hQ' := fun _ h => h)

/-- The program runs, its arguments end unchanged and every counter is back at zero. -/
theorem quiet :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨(((h.1 c).2 main_arg0 (Pipeline.mem_restRefs_of main_arg0 (by decide) (by decide))).trans (W_main_arg0 m (dats m) c)),
      ((h.1 c).1 2).trans (((dats m 0 c).arrAt_in 2 rfl _).trans (V_main_arg1 m c)),
      ((h.1 c).1 3).trans (((dats m 0 c).arrAt_in 3 rfl _).trans (V_main_arg2 m c)),
      (((h.1 c).2 main_arg3 (Pipeline.mem_restRefs_of main_arg3 (by decide) (by decide))).trans (W_main_arg3 m (dats m) c)),
      (((h.1 c).2 main_arg4 (Pipeline.mem_restRefs_of main_arg4 (by decide) (by decide))).trans (W_main_arg4 m (dats m) c)),
      ((h.1 c).1 5).trans (((dats m 0 c).arrAt_in 5 rfl _).trans (V_main_arg5 m c)),
      (((h.1 c).2 main_arg6 (Pipeline.mem_restRefs_of main_arg6 (by decide) (by decide))).trans (W_main_arg6 m (dats m) c))⟩, h.2⟩) (run_main m ρ)

end Cert.Kernel.Hand

end
-- ==== Proof.KernelIdeal.Blocks.lean ====
/- The decoding part of one trip of the chunk loop, written once for every tile.

   The printed trip repeats the same statements for each of the 8 groups of 128 packed columns, the
   4 sets of 128 output lanes and the 4 scale blocks of 64 weights inside a group.  Here the values
   and places are stated once, over the group, lanes and block, and the pieces the run of the trip
   finds are shown to be these. -/
module

public import proofs.«01_k».proof.Proof.Gen.KernelIdeal.Loops
public import proofs.«01_k».proof.Proof.Gen.KernelIdeal.Frame

@[expose] public section

noncomputable section

namespace Cert.KernelIdeal.Hand

open Idealize.ShloMosaic Idealize.ShloMosaic.TcCoe Idealize.SL.Sem
open Cert.KernelIdeal Cert.KernelIdeal.Gen

variable {F : FTy → Type} [FloatOps F]

/-! ## The values of one block -/

/-- The low nibble of every byte of a word. -/
def nibLow (w : IVec S8x128 32) : IVec S8x128 32 := andi w (broadcast S8x128 252645135#32)

/-- The high nibble of every byte of a word. -/
def nibHigh (w : IVec S8x128 32) : IVec S8x128 32 :=
  andi (shrsi w (broadcast S8x128 4#32)) (broadcast S8x128 252645135#32)

/-- The table entries the nibbles `nib` (one per byte) select, as bytes. -/
def look (tbl : IVec S32x128 32) (nib : IVec S8x128 32) : IVec S32x128 8 :=
  trunci 8 (dynamicGather 1 tbl (shapeCast S32x128 (shapeCast S32x128x1
    (extsi 32 (bitcast S32x128 8 nib bitcasts_S8x128_w32_S32x128_w8) natLt_8_32)
    shapeCasts_S32x128_S32x128x1) shapeCasts_S32x128x1_S32x128)) natLt_8_32

/-- The words whose halves are the bf16 codes of the even rows' bytes. -/
def evenW (lo hi : IVec S32x128 8) : IVec S8x128 32 :=
  ori (andi (bitcast S8x128 32 lo bitcasts_S32x128_w8_S8x128_w32) (broadcast S8x128 16711935#32))
    (shli (andi (bitcast S8x128 32 hi bitcasts_S32x128_w8_S8x128_w32) (broadcast S8x128 16711935#32))
      (broadcast S8x128 8#32))

/-- The words whose halves are the bf16 codes of the odd rows' bytes. -/
def oddW (lb : IVec S32x128 1) (lo hi : IVec S32x128 8) : IVec S8x128 32 :=
  bitcast S8x128 32 (select lb
    (bitcast S32x128 8 (shrui (bitcast S8x128 32 lo bitcasts_S32x128_w8_S8x128_w32) (broadcast S8x128 8#32))
      bitcasts_S8x128_w32_S32x128_w8) hi) bitcasts_S32x128_w8_S8x128_w32

/-- The halves of the words read as bf16. -/
def asBf (w : IVec S8x128 32) : FVec F S16x128 .bf16 :=
  bitcastToFloat .bf16 (bitcast S16x128 16 w bitcasts_S8x128_w32_S16x128_w16)

/-- A block's scales, one per lane, along the sixteen rows of a tile. -/
def amaxT (a : Vec F S1x1x128 .f32) : FVec F S16x128 .bf16 :=
  truncf .bf16 (broadcastTo S16x128 (shapeCast S1x128 (shapeCast S1x128 (a : FVec F S1x1x128 .f32) shapeCasts_S1x1x128_S1x128)
    shapeCasts_S1x128_S1x128) broadcasts_S1x128_S16x128) bitsLt_bf16_f32

/-- The words of the packed weights: the tile transposed, four bytes to a word. -/
def wordsT (w : Vec F S128x128 .i8) : IVec S32x128 32 :=
  bitcast S32x128 32 (transpose S128x128 [1, 0] (w : IVec S128x128 8) transposes_S128x128_p1_0_S128x128)
    bitcasts_S128x128_w8_S32x128_w32

theorem slices_block (b : Fin 4) : S32x128.Slices ![8 * b.val, 0] S8x128 := by
  revert b; decide

/-- The eight rows of words of block `b`. -/
def blockW (w : IVec S32x128 32) (b : Fin 4) : IVec S8x128 32 :=
  extractStridedSlice S8x128 ![8 * b.val, 0] w (slices_block b)

/-- The four tiles of sixteen rows a block decodes to: low nibbles of the even bytes, of the odd
    bytes, then high nibbles of the even bytes, of the odd bytes. -/
def tile (tl th : IVec S32x128 32) (lb : IVec S32x128 1) (w : IVec S8x128 32) (am : FVec F S16x128 .bf16) :
    Fin 4 → FVec F S16x128 .bf16
  | 0 => mulf (asBf (evenW (look tl (nibLow w)) (look th (nibLow w)))) am
  | 1 => mulf (asBf (oddW lb (look tl (nibLow w)) (look th (nibLow w)))) am
  | 2 => mulf (asBf (evenW (look tl (nibHigh w)) (look th (nibHigh w)))) am
  | 3 => mulf (asBf (oddW lb (look tl (nibHigh w)) (look th (nibHigh w)))) am

/-! ## The rectangles of one block -/

/-- Where the packed weights of group `jt`, lanes `n` start at trip `k`. -/
def wOff (k : Fin k0_t2_loop.trips) (jt : Fin 8) (n : Fin 4) : Fin 2 → Nat :=
  ![128 * n.val, k0_off2 k (BitVec.ofNat 32 (128 * jt.val)) 1]

theorem wOff_inb (k : Fin k0_t2_loop.trips) (jt : Fin 8) (n : Fin 4) :
    ∀ a, wOff k jt n a + S128x128.size a ≤ S512x8192.size a := by
  have h := k0_off2_inb k jt 1
  intro a
  match a with
  | 0 => show 128 * n.val + 128 ≤ 512; omega
  | 1 => exact h

/-- Where the scales of block `b` of group `jt`, lanes `n` start at trip `k`. -/
def aOff (k : Fin k0_t2_loop.trips) (jt : Fin 8) (n : Fin 4) (b : Fin 4) : Fin 3 → Nat :=
  ![k0_off3 k 0, 4 * jt.val + b.val, 128 * n.val]

theorem aOff_inb (k : Fin k0_t2_loop.trips) (jt : Fin 8) (n : Fin 4) (b : Fin 4) :
    ∀ a, aOff k jt n b a + S1x1x128.size a ≤ S8x32x512.size a := by
  have h := k0_off3_inb k 0
  intro a
  match a with
  | 0 => exact h
  | 1 => show 4 * jt.val + b.val + 1 ≤ 32; omega
  | 2 => show 128 * n.val + 128 ≤ 512; omega

/-- Where tile `v` of block `b` of group `jt`, lanes `n` is stored. -/
def dOff (jt : Fin 8) (n : Fin 4) (b : Fin 4) (v : Fin 4) : Fin 2 → Nat :=
  ![256 * jt.val + 64 * b.val + 16 * v.val, 128 * n.val]

theorem dOff_inb (jt : Fin 8) (n : Fin 4) (b : Fin 4) (v : Fin 4) :
    ∀ a, dOff jt n b v a + S16x128.size a ≤ S2048x512.size a := by
  intro a
  match a with
  | 0 => show 256 * jt.val + 64 * b.val + 16 * v.val + 16 ≤ 2048; omega
  | 1 => show 128 * n.val + 128 ≤ 512; omega

/-- The rectangle of a tile. -/
abbrev dRect (jt : Fin 8) (n : Fin 4) (b : Fin 4) (v : Fin 4) : Rect S2048x512 :=
  Rect.unit (s := S2048x512) (dOff jt n b v) S16x128.size (dOff_inb jt n b v)

/-! ## The pieces one trip stores -/

section pieces
variable (tl th : IVec S32x128 32) (lb : IVec S32x128 1)
  (W : Vec F S512x8192 .i8) (A : Vec F S8x32x512 .f32)
  (k : Fin k0_t2_loop.trips)

/-- The packed weights of group `jt`, lanes `n`, as trip `k` reads them. -/
def wAt (jt : Fin 8) (n : Fin 4) : Vec F S128x128 .i8 :=
  View.ld (Val := Elt F) W (Rect.unit (s := S512x8192) (wOff k jt n) S128x128.size (wOff_inb k jt n))

/-- The scales of block `b` of group `jt`, lanes `n`, as trip `k` reads them. -/
def aAt (jt : Fin 8) (n b : Fin 4) : Vec F S1x1x128 .f32 :=
  View.ld (Val := Elt F) A (Rect.unit (s := S8x32x512) (aOff k jt n b) S1x1x128.size (aOff_inb k jt n b))

/-- One decoded tile and where it goes. -/
def piece (jt : Fin 8) (n b v : Fin 4) : View.Piece (Elt F) S2048x512 .bf16 :=
  ⟨dRect jt n b v, shapeCast S16x128
    (tile tl th lb (blockW (wordsT (wAt W k jt n)) b) (amaxT (aAt A k jt n b)) v) shapeCasts_S16x128_S16x128⟩

/-- The four tiles of a block, last first. -/
def blockPieces (jt : Fin 8) (n b : Fin 4) : List (View.Piece (Elt F) S2048x512 .bf16) :=
  [piece tl th lb W A k jt n b 3, piece tl th lb W A k jt n b 2,
   piece tl th lb W A k jt n b 1, piece tl th lb W A k jt n b 0]

/-- The four blocks of one set of lanes, last first. -/
def lanePieces (jt : Fin 8) (n : Fin 4) : List (View.Piece (Elt F) S2048x512 .bf16) :=
  blockPieces tl th lb W A k jt n 3 ++ (blockPieces tl th lb W A k jt n 2 ++
    (blockPieces tl th lb W A k jt n 1 ++ blockPieces tl th lb W A k jt n 0))

/-- The four sets of lanes of one group, last first. -/
def groupPieces (jt : Fin 8) : List (View.Piece (Elt F) S2048x512 .bf16) :=
  lanePieces tl th lb W A k jt 3 ++ (lanePieces tl th lb W A k jt 2 ++
    (lanePieces tl th lb W A k jt 1 ++ lanePieces tl th lb W A k jt 0))

/-- The eight groups of a chunk, last first. -/
def chunkPieces : List (View.Piece (Elt F) S2048x512 .bf16) :=
  groupPieces tl th lb W A k 7 ++ (groupPieces tl th lb W A k 6 ++
    (groupPieces tl th lb W A k 5 ++ (groupPieces tl th lb W A k 4 ++
      (groupPieces tl th lb W A k 3 ++ (groupPieces tl th lb W A k 2 ++
        (groupPieces tl th lb W A k 1 ++ groupPieces tl th lb W A k 0))))))

end pieces

variable (𝒱 : Variants) (c : Dev nD) (bd : Option 𝒱.V) (i : grid0.Coords)
  (arg1 : Memref sig .tc .smem S1 .f32) (harg1 : arg1.IsWhole)
  (arg2 : Memref sig .tc .vmem S128x16384 .bf16) (harg2 : arg2.IsWhole)
  (arg3 : Memref sig .tc .vmem S512x8192 .i8) (harg3 : arg3.IsWhole)
  (arg4 : Memref sig .tc .vmem S512x256 .i8) (harg4 : arg4.IsWhole)
  (arg5 : Memref sig .tc .vmem S1x512 .f32) (harg5 : arg5.IsWhole)
  (arg6 : Memref sig .tc .vmem S16x16384 .bf16) (harg6 : arg6.IsWhole)
  (arg7 : Memref sig .tc .vmem S16x512 .bf16) (harg7 : arg7.IsWhole)
  (arg8 : Memref sig .tc .vmem S128x512 .bf16) (harg8 : arg8.IsWhole)
  (arg9 : Memref sig .tc .vmem S128x16384 .bf16) (harg9 : arg9.IsWhole)
  (arg10 : Memref sig .tc .vmem S128x16 .bf16) (harg10 : arg10.IsWhole)
  (arg11 : Memref sig .tc .vmem S8x32x512 .f32) (harg11 : arg11.IsWhole)
  (arg12 : Memref sig .tc .vmem S2048x512 .bf16) (harg12 : arg12.IsWhole)
  (arg13 : Memref sig .tc .vmem S128x512 .f32) (harg13 : arg13.IsWhole)
  (v200 v203 v240 v241 : IVec S32x128 32)
  (X3 : BufTy.Contents (Elt F) arg3.view.ty) (X9 : BufTy.Contents (Elt F) arg9.view.ty)
  (X11 : BufTy.Contents (Elt F) arg11.view.ty) (k : Fin k0_t2_loop.trips)
  (f12 : BufTy.Contents (Elt F) arg12.view.ty) (f13 : BufTy.Contents (Elt F) arg13.view.ty)

set_option maxRecDepth 1000000 in
set_option maxHeartbeats 0 in
/-- The pieces the run of one trip finds are the pieces above. -/
theorem tripL_fst : (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v200 v203 v240 v241 X3 X9 X11 k f12 f13).1
    = chunkPieces v200 (k0_pay2175 v203 v240 v241) k0_pay2176 (arg3.view.read (Elt F) X3) (arg11.view.read (Elt F) X11) k := by
  unfold tripL_k0_t2 trip_k0_t2
  rfl

set_option maxRecDepth 1000000 in
set_option maxHeartbeats 0 in
/-- The trip adds the product of its chunk of columns with the decoded weights to the accumulator. -/
theorem tripL_snd : (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v200 v203 v240 v241 X3 X9 X11 k f12 f13).2
    = [⟨Rect.unit (s := S128x512) ![0, 0] S128x512.size inb_S128x512_S128x512_0_0,
        k0_pay2177 (View.ld (Val := Elt F) (arg9.view.read (Elt F) X9) (Rect.unit (s := S128x16384) (k0_off134 k) S128x2048.size (k0_off134_inb k)))
          (arg12.view.readCov (chunkPieces v200 (k0_pay2175 v203 v240 v241) k0_pay2176 (arg3.view.read (Elt F) X3) (arg11.view.read (Elt F) X11) k)
            (Rect.unit (s := S2048x512) ![0, 0] S2048x512.size inb_S2048x512_S2048x512_0_0).toLoadRect)
          (View.ld (Val := Elt F) (arg13.view.read (Elt F) f13) (Rect.unit (s := S128x512) ![0, 0] S128x512.size inb_S128x512_S128x512_0_0))⟩] := by
  unfold tripL_k0_t2 trip_k0_t2
  rfl

end Cert.KernelIdeal.Hand

end
-- ==== Proof.KernelIdeal.Values.lean ====
/- What the kernel's scratch buffers and its result hold, as functions of the blocks it reads, at any
   floats: the reordered columns of `x`, the low-rank part, the scales, a decoded chunk of weights,
   the accumulator after each chunk and the stored tile; and that the pieces the loops write leave
   exactly these. -/
module

public import proofs.«01_k».proof.Proof.KernelIdeal.Blocks
public import Idealize.ShloMosaic.Lib.VecWindow

@[expose] public section

noncomputable section

namespace Cert.KernelIdeal.Hand

open Idealize.ShloMosaic Idealize.ShloMosaic.TcCoe Idealize.SL.Sem
open Cert.KernelIdeal Cert.KernelIdeal.Gen

variable {F : FTy → Type} [FloatOps F]

/-! ## The reordered columns -/

/-- The 256 × 256 matrix the kernel multiplies each group of 256 columns by. -/
def perm : FVec F S256x256 .bf16 :=
  k0_pay10 (F := F) (iota .tc S256x256 32 [0] iota_S256x256_d0_w32) k0_pay1 k0_pay2 (k0_pay4 k0_pay2 32#32 k0_pay3)
    (k0_pay6 (k0_pay5 k0_pay2)) (k0_pay7 k0_pay2) 2#32 (k0_pay8 k0_pay2) (k0_pay9 k0_pay2)
    (Scalar.extui (Scalar.cmpi .sgt 2#32 0#32)) 0#32

theorem xp_inb (k : Fin k0_t1_loop.trips) : ∀ a, (k0_off1 k) a + S128x256.size a ≤ S128x16384.size a := by
  rw [k0_off1_eq]
  have := Nat.lt_of_lt_of_le k.isLt k0_t1_abs.2.1
  intro a
  match a with
  | 0 => show 0 + 128 ≤ 128; omega
  | 1 => show 256 * k.val + 256 ≤ 16384; omega

/-- The columns of trip `k`. -/
abbrev xpRect (k : Fin k0_t1_loop.trips) : Rect S128x16384 :=
  Rect.unit (s := S128x16384) (k0_off1 k) S128x256.size (xp_inb k)

/-- The groups of columns the trips before `n` store, last first. -/
def xpPieces (X : Vec F S128x16384 .bf16) : ℕ → List (View.Piece (Elt F) S128x16384 .bf16)
  | 0 => []
  | n + 1 => if h : n < k0_t1_loop.trips then
      ⟨xpRect ⟨n, h⟩, k0_pay2155 perm (View.ld (Val := Elt F) X (xpRect ⟨n, h⟩))⟩ :: xpPieces X n
    else xpPieces X n

/-- The reordered `x`. -/
def xpOf (X : Vec F S128x16384 .bf16) : Vec F S128x16384 .bf16 := View.canon (xpPieces X k0_t1_loop.trips)

theorem xpPieces_cover (X : Vec F S128x16384 .bf16) (n : ℕ) (hn : n ≤ k0_t1_loop.trips) (y : S128x16384.Idx)
    (hy : (y 1).val < 256 * n) : ∃ p ∈ xpPieces X n, y ∈ p.1.set := by
  induction n with
  | zero => omega
  | succ n ih =>
    have h : n < k0_t1_loop.trips := by omega
    unfold xpPieces; rw [dif_pos h]
    by_cases hlt : (y 1).val < 256 * n
    · obtain ⟨p, hp, hm⟩ := ih (by omega) hlt
      exact ⟨p, List.mem_cons_of_mem _ hp, hm⟩
    · refine ⟨_, List.mem_cons_self, ?_⟩
      show y ∈ (xpRect ⟨n, h⟩).set
      rw [Rect.mem_set_unit]
      intro a
      rw [k0_off1_eq]
      match a with
      | 0 => exact ⟨Nat.zero_le _, (y 0).isLt⟩
      | 1 => exact ⟨by show 256 * n ≤ _; omega, by show (y 1).val < 256 * n + 256; omega⟩

theorem t1_trips : k0_t1_loop.trips = 64 := by decide
theorem t2_trips : k0_t2_loop.trips = 8 := by decide

theorem xp_covers (X : Vec F S128x16384 .bf16) (y : S128x16384.Idx) :
    ∃ p ∈ xpPieces X k0_t1_loop.trips, y ∈ p.1.set :=
  xpPieces_cover X _ le_rfl y (by rw [t1_trips]; exact (y 1).isLt)

/-! ## The low-rank part and the scales -/

/-- Twice the product of `x` with the first low-rank factor. -/
def lowOf (X : Vec F S128x16384 .bf16) (La : Vec F S16x16384 .bf16) : Vec F S128x16 .bf16 := k0_pay2156 X La

/-- The one offset. -/
def offOf (O : Vec F S1 .f32) : Elt F .f32 :=
  View.ld (Val := Elt F) O (Rect.unit (s := S1) ![0] S1.size inb_S1_S1_0) (Shape.Idx.first (by decide))

theorem lane_slices (n : Fin 4) : S1x512.Slices ![0, 128 * n.val] S1x128 := by
  revert n; decide

/-- The scales of 128 outputs and 128 blocks: code times scale plus offset, rounded to bf16. -/
def amVal (n : Fin 4) (S : Vec F S1x512 .f32) (o : Elt F .f32) (C : Vec F S128x128 .i8) : FVec F S4x32x128 .f32 :=
  shapeCast S4x32x128 (shapeCast S4x32x128 (extf .f32 (truncf .bf16
    (addf (mulf (sitofp .f32 (extsi 32 (transpose S128x128 [1, 0] (C : IVec S128x128 8) transposes_S128x128_p1_0_S128x128) natLt_8_32))
        (broadcastTo S128x128 (extractStridedSlice S1x128 ![0, 128 * n.val] (shapeCast S1x512 S shapeCasts_S1x512_S1x512) (lane_slices n)) broadcasts_S1x128_S128x128))
      (broadcast S128x128 o)) bitsLt_bf16_f32) bitsLt_bf16_f32) shapeCasts_S128x128_S4x32x128) shapeCasts_S4x32x128_S4x32x128

theorem cd_inb (h : Fin 2) (n : Fin 4) : ∀ a, (![128 * n.val, 128 * h.val] : Fin 2 → ℕ) a + S128x128.size a ≤ S512x256.size a := by
  intro a
  match a with
  | 0 => show 128 * n.val + 128 ≤ 512; omega
  | 1 => show 128 * h.val + 128 ≤ 256; omega

theorem am_inb (h : Fin 2) (n : Fin 4) : ∀ a, (![4 * h.val, 0, 128 * n.val] : Fin 3 → ℕ) a + S4x32x128.size a ≤ S8x32x512.size a := by
  intro a
  match a with
  | 0 => show 4 * h.val + 4 ≤ 8; omega
  | 1 => show 0 + 32 ≤ 32; omega
  | 2 => show 128 * n.val + 128 ≤ 512; omega

/-- The scales of half `h` of the blocks and lanes `n`, and where they go. -/
def amPiece (S : Vec F S1x512 .f32) (o : Elt F .f32) (C : Vec F S512x256 .i8) (h : Fin 2) (n : Fin 4) :
    View.Piece (Elt F) S8x32x512 .f32 :=
  ⟨Rect.unit (s := S8x32x512) ![4 * h.val, 0, 128 * n.val] S4x32x128.size (am_inb h n),
    amVal n S o (View.ld (Val := Elt F) C (Rect.unit (s := S512x256) ![128 * n.val, 128 * h.val] S128x128.size (cd_inb h n)))⟩

/-- The eight stores of the scales, last first. -/
def amPieces (S : Vec F S1x512 .f32) (o : Elt F .f32) (C : Vec F S512x256 .i8) : List (View.Piece (Elt F) S8x32x512 .f32) :=
  [amPiece S o C 1 3, amPiece S o C 0 3, amPiece S o C 1 2, amPiece S o C 0 2,
   amPiece S o C 1 1, amPiece S o C 0 1, amPiece S o C 1 0, amPiece S o C 0 0]

theorem amPiece_mem (S : Vec F S1x512 .f32) (o : Elt F .f32) (C : Vec F S512x256 .i8) (h : Fin 2) (n : Fin 4) :
    amPiece S o C h n ∈ amPieces S o C := by
  unfold amPieces
  fin_cases h <;> fin_cases n <;> simp

theorem am_covers (S : Vec F S1x512 .f32) (o : Elt F .f32) (C : Vec F S512x256 .i8) (y : S8x32x512.Idx) :
    ∃ p ∈ amPieces S o C, y ∈ p.1.set := by
  have h0 : (y 0).val < 8 := (y 0).isLt
  have h2 : (y 2).val < 512 := (y 2).isLt
  refine ⟨_, amPiece_mem S o C ⟨(y 0).val / 4, by omega⟩ ⟨(y 2).val / 128, by omega⟩, ?_⟩
  unfold amPiece
  rw [Rect.mem_set_unit]
  intro a
  match a with
  | 0 => exact ⟨by show 4 * ((y 0).val / 4) ≤ _; omega, by show (y 0).val < 4 * ((y 0).val / 4) + 4; omega⟩
  | 1 => exact ⟨Nat.zero_le _, by show (y 1).val < 0 + 32; have h1 : (y 1).val < 32 := (y 1).isLt; omega⟩
  | 2 => exact ⟨by show 128 * ((y 2).val / 128) ≤ _; omega, by show (y 2).val < 128 * ((y 2).val / 128) + 128; omega⟩

/-- All scales of the 512 outputs. -/
def amOf (S : Vec F S1x512 .f32) (o : Elt F .f32) (C : Vec F S512x256 .i8) : Vec F S8x32x512 .f32 :=
  View.canon (amPieces S o C)

/-! ## One decoded chunk -/

/-- The bf16 table as bytes: the low bytes, the high bytes, and which rows hold even bytes. -/
def tblLow : IVec S32x128 32 := k0_pay2171 k0_pay2168 k0_pay2169 k0_pay2170
def tblHigh : IVec S32x128 32 :=
  k0_pay2175 (k0_pay2172 (iota .tc S32x128 32 [1] iota_S32x128_d1_w32) 15#32)
    (k0_pay2173 (iota .tc S32x128 32 [1] iota_S32x128_d1_w32) 15#32) k0_pay2174
def rowsEven : IVec S32x128 1 := k0_pay2176

section chunk
variable (W : Vec F S512x8192 .i8) (A : Vec F S8x32x512 .f32) (k : Fin k0_t2_loop.trips)

theorem piece_mem (jt : Fin 8) (n b v : Fin 4) :
    piece tblLow tblHigh rowsEven W A k jt n b v ∈ chunkPieces tblLow tblHigh rowsEven W A k := by
  have hb : piece tblLow tblHigh rowsEven W A k jt n b v ∈ blockPieces tblLow tblHigh rowsEven W A k jt n b := by
    unfold blockPieces; fin_cases v <;> simp
  have hn : piece tblLow tblHigh rowsEven W A k jt n b v ∈ lanePieces tblLow tblHigh rowsEven W A k jt n := by
    unfold lanePieces
    simp only [List.mem_append]
    fin_cases b
    · exact .inr (.inr (.inr hb))
    · exact .inr (.inr (.inl hb))
    · exact .inr (.inl hb)
    · exact .inl hb
  have hj : piece tblLow tblHigh rowsEven W A k jt n b v ∈ groupPieces tblLow tblHigh rowsEven W A k jt := by
    unfold groupPieces
    simp only [List.mem_append]
    fin_cases n
    · exact .inr (.inr (.inr hn))
    · exact .inr (.inr (.inl hn))
    · exact .inr (.inl hn)
    · exact .inl hn
  unfold chunkPieces
  simp only [List.mem_append]
  fin_cases jt
  · exact .inr (.inr (.inr (.inr (.inr (.inr (.inr hj))))))
  · exact .inr (.inr (.inr (.inr (.inr (.inr (.inl hj))))))
  · exact .inr (.inr (.inr (.inr (.inr (.inl hj)))))
  · exact .inr (.inr (.inr (.inr (.inl hj))))
  · exact .inr (.inr (.inr (.inl hj)))
  · exact .inr (.inr (.inl hj))
  · exact .inr (.inl hj)
  · exact .inl hj

/-- The group, lanes, block and tile an element of the chunk lies in. -/
abbrev jtOf (y : S2048x512.Idx) : Fin 8 := ⟨(y 0).val / 256, by have h : (y 0).val < 2048 := (y 0).isLt; omega⟩
abbrev bOf (y : S2048x512.Idx) : Fin 4 := ⟨(y 0).val % 256 / 64, by omega⟩
abbrev vOf (y : S2048x512.Idx) : Fin 4 := ⟨(y 0).val % 64 / 16, by omega⟩
abbrev nOf (y : S2048x512.Idx) : Fin 4 := ⟨(y 1).val / 128, by have h : (y 1).val < 512 := (y 1).isLt; omega⟩

theorem mem_dRect (y : S2048x512.Idx) : y ∈ (dRect (jtOf y) (nOf y) (bOf y) (vOf y)).set := by
  rw [Rect.mem_set_unit]
  have h0 : (y 0).val < 2048 := (y 0).isLt
  have h1 : (y 1).val < 512 := (y 1).isLt
  intro a
  match a with
  | 0 => exact ⟨by show 256 * ((y 0).val / 256) + 64 * ((y 0).val % 256 / 64) + 16 * ((y 0).val % 64 / 16) ≤ _; omega,
      by show (y 0).val < 256 * ((y 0).val / 256) + 64 * ((y 0).val % 256 / 64) + 16 * ((y 0).val % 64 / 16) + 16; omega⟩
  | 1 => exact ⟨by show 128 * ((y 1).val / 128) ≤ _; omega, by show (y 1).val < 128 * ((y 1).val / 128) + 128; omega⟩

theorem chunk_covers (y : S2048x512.Idx) : ∃ p ∈ chunkPieces tblLow tblHigh rowsEven W A k, y ∈ p.1.set :=
  ⟨_, piece_mem W A k (jtOf y) (nOf y) (bOf y) (vOf y), mem_dRect y⟩

/-- The decoded weights of chunk `k`. -/
def wdOf : Vec F S2048x512 .bf16 := View.canon (chunkPieces tblLow tblHigh rowsEven W A k)

end chunk

/-! ## The accumulator -/

/-- Chunk `k`'s columns of the reordered `x`. -/
abbrev chunkRect (k : Fin k0_t2_loop.trips) : Rect S128x16384 :=
  Rect.unit (s := S128x16384) (k0_off134 k) S128x2048.size (k0_off134_inb k)

/-- The accumulator after `n` chunks, from `a0`. -/
def accOf (Xp : Vec F S128x16384 .bf16) (W : Vec F S512x8192 .i8) (A : Vec F S8x32x512 .f32) (a0 : Vec F S128x512 .f32) :
    ℕ → Vec F S128x512 .f32
  | 0 => a0
  | n + 1 => if h : n < k0_t2_loop.trips then
      k0_pay2177 (View.ld (Val := Elt F) Xp (chunkRect ⟨n, h⟩)) (wdOf W A ⟨n, h⟩) (accOf Xp W A a0 n)
    else accOf Xp W A a0 n

/-- The tile a grid point stores. -/
def outOf (Xp : Vec F S128x16384 .bf16) (Lo : Vec F S128x16 .bf16) (O : Vec F S1 .f32) (W : Vec F S512x8192 .i8)
    (C : Vec F S512x256 .i8) (S : Vec F S1x512 .f32) (Lb : Vec F S16x512 .bf16) : Vec F S128x512 .bf16 :=
  k0_pay2178 (accOf Xp W (amOf S (offOf O) C) (k0_pay2167 Lo Lb) k0_t2_loop.trips)

/-! ## What the loops leave -/

section loops
variable (𝒱 : Variants) (c : Dev nD) (bd : Option 𝒱.V) (i : grid0.Coords)
  (arg1 : Memref sig .tc .smem S1 .f32) (harg1 : arg1.IsWhole)
  (arg2 : Memref sig .tc .vmem S128x16384 .bf16) (harg2 : arg2.IsWhole)
  (arg3 : Memref sig .tc .vmem S512x8192 .i8) (harg3 : arg3.IsWhole)
  (arg4 : Memref sig .tc .vmem S512x256 .i8) (harg4 : arg4.IsWhole)
  (arg5 : Memref sig .tc .vmem S1x512 .f32) (harg5 : arg5.IsWhole)
  (arg6 : Memref sig .tc .vmem S16x16384 .bf16) (harg6 : arg6.IsWhole)
  (arg7 : Memref sig .tc .vmem S16x512 .bf16) (harg7 : arg7.IsWhole)
  (arg8 : Memref sig .tc .vmem S128x512 .bf16) (harg8 : arg8.IsWhole)
  (arg9 : Memref sig .tc .vmem S128x16384 .bf16) (harg9 : arg9.IsWhole)
  (arg10 : Memref sig .tc .vmem S128x16 .bf16) (harg10 : arg10.IsWhole)
  (arg11 : Memref sig .tc .vmem S8x32x512 .f32) (harg11 : arg11.IsWhole)
  (arg12 : Memref sig .tc .vmem S2048x512 .bf16) (harg12 : arg12.IsWhole)
  (arg13 : Memref sig .tc .vmem S128x512 .f32) (harg13 : arg13.IsWhole)

set_option maxHeartbeats 0 in
/-- The pieces the first loop writes. -/
theorem pb1_eq (hc : k0_cond1 i = 1#1) (X2 : BufTy.Contents (Elt F) arg2.view.ty) (n : ℕ) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 hc perm X2 n = xpPieces (arg2.view.read (Elt F) X2) n := by
  induction n with
  | zero => rfl
  | succ n ih =>
    rw [xpPieces, ← ih]
    by_cases h : n < k0_t1_loop.trips
    · rw [dif_pos h]
      refine (pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 hc perm X2 ⟨n, h⟩).trans ?_
      unfold tripL_k0_t1 trip_k0_t1
      rfl
    · rw [dif_neg h, pb_k0_t1.eq_2]; unfold pb_k0_t1Step; exact dif_neg h

/-- The accumulator after the second loop's trips before `n`. -/
theorem pb2_acc (X3 : BufTy.Contents (Elt F) arg3.view.ty) (X9 : BufTy.Contents (Elt F) arg9.view.ty)
    (X11 : BufTy.Contents (Elt F) arg11.view.ty) (G12 : BufTy.Contents (Elt F) arg12.view.ty)
    (G13 : BufTy.Contents (Elt F) arg13.view.ty) (v203 v240 v241 : IVec S32x128 32)
    (hth : k0_pay2175 v203 v240 v241 = tblHigh) (n : ℕ) :
    arg13.view.read (Elt F) (arg13.view.writes (Elt F) G13 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 tblLow v203 v240 v241 X3 X9 X11 G12 G13 n).2)
      = accOf (arg9.view.read (Elt F) X9) (arg3.view.read (Elt F) X3) (arg11.view.read (Elt F) X11) (arg13.view.read (Elt F) G13) n := by
  induction n with
  | zero => rfl
  | succ n ih =>
    rw [accOf, ← ih]
    by_cases h : n < k0_t2_loop.trips
    · rw [dif_pos h]
      rw [show pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 tblLow v203 v240 v241 X3 X9 X11 G12 G13 (n + 1) = _ from
        pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 tblLow v203 v240 v241 X3 X9 X11 G12 G13 ⟨n, h⟩]
      rw [tripL_snd, List.cons_append, View.read_writes_full]
      rw [hth]
      have hw : (arg12.view.readCov (chunkPieces tblLow tblHigh k0_pay2176 (arg3.view.read (Elt F) X3) (arg11.view.read (Elt F) X11) ⟨n, h⟩)
            (Rect.unit (s := S2048x512) ![0, 0] S2048x512.size inb_S2048x512_S2048x512_0_0).toLoadRect)
          = wdOf (arg3.view.read (Elt F) X3) (arg11.view.read (Elt F) X11) ⟨n, h⟩ :=
        (View.readAt_full _ _ _).trans (View.read_writes_eq_canon _ _ _ (chunk_covers _ _ _))
      rw [hw]
      refine congrArg (k0_pay2177 _ _) ?_
      exact View.readAt_full arg13.view _ inb_S128x512_S128x512_0_0
    · rw [dif_neg h, pb_k0_t2.eq_2]; unfold pb_k0_t2Step; rw [dif_neg h]

end loops

end Cert.KernelIdeal.Hand

end
-- ==== Proof.KernelIdeal.Body.lean ====
/- One run of the kernel's body, at any floats: from the blocks it reads and, after the first grid
   point, the reordered `x` and the low-rank part, it leaves both in their scratch buffers and the
   tile `outOf` of them in the output block. -/
module

public import proofs.«01_k».proof.Proof.KernelIdeal.Values

@[expose] public section

noncomputable section

namespace Cert.KernelIdeal.Hand

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Cert.KernelIdeal Cert.KernelIdeal.Gen

variable {F : FTy → Type} [FloatOps F]

local notation "𝕄G" => MT nD τ sig Unit (Elt F) ℕ (UR sig nD τ) ℕ

variable (𝒱₀ : Variants) (c : Dev nD) (i : grid0.Coords)
  (arg1 : Memref sig .tc .smem S1 .f32) (harg1 : arg1.IsWhole)
  (arg2 : Memref sig .tc .vmem S128x16384 .bf16) (harg2 : arg2.IsWhole)
  (arg3 : Memref sig .tc .vmem S512x8192 .i8) (harg3 : arg3.IsWhole)
  (arg4 : Memref sig .tc .vmem S512x256 .i8) (harg4 : arg4.IsWhole)
  (arg5 : Memref sig .tc .vmem S1x512 .f32) (harg5 : arg5.IsWhole)
  (arg6 : Memref sig .tc .vmem S16x16384 .bf16) (harg6 : arg6.IsWhole)
  (arg7 : Memref sig .tc .vmem S16x512 .bf16) (harg7 : arg7.IsWhole)
  (arg8 : Memref sig .tc .vmem S128x512 .bf16) (harg8 : arg8.IsWhole)
  (arg9 : Memref sig .tc .vmem S128x16384 .bf16) (harg9 : arg9.IsWhole)
  (arg10 : Memref sig .tc .vmem S128x16 .bf16) (harg10 : arg10.IsWhole)
  (arg11 : Memref sig .tc .vmem S8x32x512 .f32) (harg11 : arg11.IsWhole)
  (arg12 : Memref sig .tc .vmem S2048x512 .bf16) (harg12 : arg12.IsWhole)
  (arg13 : Memref sig .tc .vmem S128x512 .f32) (harg13 : arg13.IsWhole)
  (f1 : BufTy.Contents (Elt F) arg1.view.ty)
  (f2 : BufTy.Contents (Elt F) arg2.view.ty)
  (f3 : BufTy.Contents (Elt F) arg3.view.ty)
  (f4 : BufTy.Contents (Elt F) arg4.view.ty)
  (f5 : BufTy.Contents (Elt F) arg5.view.ty)
  (f6 : BufTy.Contents (Elt F) arg6.view.ty)
  (f7 : BufTy.Contents (Elt F) arg7.view.ty)
  (f8 : BufTy.Contents (Elt F) arg8.view.ty)
  (f9 : BufTy.Contents (Elt F) arg9.view.ty)
  (f10 : BufTy.Contents (Elt F) arg10.view.ty)
  (f11 : BufTy.Contents (Elt F) arg11.view.ty)
  (f12 : BufTy.Contents (Elt F) arg12.view.ty)
  (f13 : BufTy.Contents (Elt F) arg13.view.ty)

/-- The accumulator's last load, given what the scratch buffers held when the second loop began. -/
theorem out_of (bd : Option 𝒱₀.V) (Y9 : BufTy.Contents (Elt F) arg9.view.ty) (Y11 : BufTy.Contents (Elt F) arg11.view.ty)
    (G13 G : BufTy.Contents (Elt F) arg13.view.ty) (l0 : List (View.Piece (Elt F) S128x512 .f32))
    (v200 v203 v240 v241 : IVec S32x128 32)
    (Xp : Vec F S128x16384 .bf16) (Lo : Vec F S128x16 .bf16)
    (htl : v200 = tblLow) (hth : k0_pay2175 v203 v240 v241 = tblHigh) (h9 : arg9.view.read (Elt F) Y9 = Xp)
    (h11 : arg11.view.read (Elt F) Y11
      = amOf (arg5.view.read (Elt F) f5) (offOf (arg1.view.read (Elt F) f1)) (arg4.view.read (Elt F) f4))
    (hG : G = arg13.view.writes (Elt F) G13 l0)
    (h13 : arg13.view.read (Elt F) G = k0_pay2167 Lo (arg7.view.read (Elt F) f7)) :
    k0_pay2178 (View.readAt (Elt F) arg13.view (Rect.unit (s := S128x512) ![0, 0] S128x512.size inb_S128x512_S128x512_0_0).toLoadRect
        (arg13.view.writes (Elt F) G13
          ((pb_k0_t2 (F := F) 𝒱₀ c bd i arg1 harg1 arg2 harg2 arg3 harg3 arg4 harg4 arg5 harg5 arg6 harg6 arg7 harg7 arg8 harg8 arg9 harg9 arg10 harg10 arg11 harg11 arg12 harg12 arg13 harg13 v200 v203 v240 v241 f3 Y9 Y11 f12 G k0_t2_loop.trips).2 ++ l0)))
      = outOf Xp Lo (arg1.view.read (Elt F) f1) (arg3.view.read (Elt F) f3) (arg4.view.read (Elt F) f4)
          (arg5.view.read (Elt F) f5) (arg7.view.read (Elt F) f7) := by
  subst htl
  rw [View.writes_append, ← hG]
  refine congrArg k0_pay2178 ((View.readAt_full arg13.view _ inb_S128x512_S128x512_0_0).trans ?_)
  rw [pb2_acc 𝒱₀ c bd i arg1 harg1 arg2 harg2 arg3 harg3 arg4 harg4 arg5 harg5 arg6 harg6 arg7 harg7 arg8 harg8 arg9 harg9 arg10 harg10 arg11 harg11 arg12 harg12 arg13 harg13 f3 Y9 Y11 f12 G v203 v240 v241 hth, h9, h11, h13]

/-- The eight stores of the scales leave all of them. -/
theorem am_eq (Y : BufTy.Contents (Elt F) arg11.view.ty) :
    arg11.view.read (Elt F) (arg11.view.writes (Elt F) Y (amPieces (View.readAt (Elt F) arg5.view (Rect.unit (s := S1x512) ![0, 0] S1x512.size inb_S1x512_S1x512_0_0).toLoadRect f5)
        (offOf (arg1.view.read (Elt F) f1)) (arg4.view.read (Elt F) f4)))
      = amOf (arg5.view.read (Elt F) f5) (offOf (arg1.view.read (Elt F) f1)) (arg4.view.read (Elt F) f4) := by
  rw [show View.readAt (Elt F) arg5.view (Rect.unit (s := S1x512) ![0, 0] S1x512.size inb_S1x512_S1x512_0_0).toLoadRect f5
      = arg5.view.read (Elt F) f5 from View.readAt_full arg5.view _ inb_S1x512_S1x512_0_0]
  exact View.read_writes_eq_canon _ _ _ (am_covers _ _ _)

/-- What the second loop starts from. -/
theorem acc0_eq (Y : BufTy.Contents (Elt F) arg13.view.ty) (Lv Lo : Vec F S128x16 .bf16) (h : Lv = Lo) :
    arg13.view.read (Elt F) (arg13.view.writes (Elt F) Y [⟨Rect.unit (s := S128x512) ![0, 0] S128x512.size inb_S128x512_S128x512_0_0,
        k0_pay2167 Lv (View.readAt (Elt F) arg7.view (Rect.unit (s := S16x512) ![0, 0] S16x512.size inb_S16x512_S16x512_0_0).toLoadRect f7)⟩])
      = k0_pay2167 Lo (arg7.view.read (Elt F) f7) := by
  subst h
  rw [View.read_writes_full]
  exact congrArg (k0_pay2167 Lv) (View.readAt_full arg7.view _ inb_S16x512_S16x512_0_0)

/-- The first loop leaves the reordered `x`. -/
theorem xp_eq (bd : Option 𝒱₀.V) (hc : k0_cond1 i = 1#1) (p : FVec F S256x256 .bf16) (hp : p = perm) (Y : BufTy.Contents (Elt F) arg9.view.ty)
    (Xp : Vec F S128x16384 .bf16) (hXp : xpOf (arg2.view.read (Elt F) f2) = Xp) :
    arg9.view.read (Elt F) (arg9.view.writes (Elt F) Y (pb_k0_t1 (F := F) 𝒱₀ c bd i arg1 harg1 arg2 harg2 arg3 harg3 arg4 harg4 arg5 harg5 arg6 harg6 arg7 harg7 arg8 harg8 arg9 harg9 arg10 harg10 arg11 harg11 arg12 harg12 arg13 harg13 hc p f2 k0_t1_loop.trips)) = Xp := by
  subst hp
  rw [pb1_eq, ← hXp]
  exact View.read_writes_eq_canon _ _ _ (xp_covers _)

/-- The low-rank part, stored. -/
theorem low_eq (Y : BufTy.Contents (Elt F) arg10.view.ty) (Lo : Vec F S128x16 .bf16)
    (hLo : lowOf (arg2.view.read (Elt F) f2) (arg6.view.read (Elt F) f6) = Lo) :
    arg10.view.read (Elt F) (arg10.view.writes (Elt F) Y [⟨Rect.unit (s := S128x16) ![0, 0] S128x16.size inb_S128x16_S128x16_0_0,
        k0_pay2156 (View.readAt (Elt F) arg2.view (Rect.unit (s := S128x16384) ![0, 0] S128x16384.size inb_S128x16384_S128x16384_0_0).toLoadRect f2)
          (View.readAt (Elt F) arg6.view (Rect.unit (s := S16x16384) ![0, 0] S16x16384.size inb_S16x16384_S16x16384_0_0).toLoadRect f6)⟩])
      = Lo := by
  rw [View.read_writes_full, ← hLo]
  exact congrArg₂ k0_pay2156 (View.readAt_full arg2.view _ inb_S128x16384_S128x16384_0_0) (View.readAt_full arg6.view _ inb_S16x16384_S16x16384_0_0)

set_option maxHeartbeats 0 in
/-- A run after the first grid point. -/
theorem run_later (hc : ¬ k0_cond1 i = 1#1) (Xp : Vec F S128x16384 .bf16) (Lo : Vec F S128x16 .bf16)
    (h9 : arg9.view.read (Elt F) f9 = Xp) (h10 : arg10.view.read (Elt F) f10 = Lo) :
    (iprop((arg1.view.loc (c : Thread nD τ) ↦[arg1.view.set]{fullShare} f1) ∗
    (arg2.view.loc (c : Thread nD τ) ↦[arg2.view.set]{fullShare} f2) ∗
    (arg3.view.loc (c : Thread nD τ) ↦[arg3.view.set]{fullShare} f3) ∗
    (arg4.view.loc (c : Thread nD τ) ↦[arg4.view.set]{fullShare} f4) ∗
    (arg5.view.loc (c : Thread nD τ) ↦[arg5.view.set]{fullShare} f5) ∗
    (arg6.view.loc (c : Thread nD τ) ↦[arg6.view.set]{fullShare} f6) ∗
    (arg7.view.loc (c : Thread nD τ) ↦[arg7.view.set]{fullShare} f7) ∗
    (arg8.view.loc (c : Thread nD τ) ↦[arg8.view.set]{fullShare} f8) ∗
    (arg9.view.loc (c : Thread nD τ) ↦[arg9.view.set]{fullShare} f9) ∗
    (arg10.view.loc (c : Thread nD τ) ↦[arg10.view.set]{fullShare} f10) ∗
    (arg11.view.loc (c : Thread nD τ) ↦[arg11.view.set]{fullShare} f11) ∗
    (arg12.view.loc (c : Thread nD τ) ↦[arg12.view.set]{fullShare} f12) ∗
    (arg13.view.loc (c : Thread nD τ) ↦[arg13.view.set]{fullShare} f13)) : sProp 𝕄G)
      ⊢ (wp frame (wpE (defs₀ (F := F)) 𝒱₀ (c : Thread nD τ) none) Set.univ
          (cc0_qlora (F := F) i arg1 harg1 arg2 harg2 arg3 harg3 arg4 harg4 arg5 harg5 arg6 harg6 arg7 harg7 arg8 harg8 arg9 harg9 arg10 harg10 arg11 harg11 arg12 harg12 arg13 harg13)
          (fun _ => iprop((arg1.view.loc (c : Thread nD τ) ↦[arg1.view.set]{fullShare} f1) ∗
      (arg2.view.loc (c : Thread nD τ) ↦[arg2.view.set]{fullShare} f2) ∗
      (arg3.view.loc (c : Thread nD τ) ↦[arg3.view.set]{fullShare} f3) ∗
      (arg4.view.loc (c : Thread nD τ) ↦[arg4.view.set]{fullShare} f4) ∗
      (arg5.view.loc (c : Thread nD τ) ↦[arg5.view.set]{fullShare} f5) ∗
      (arg6.view.loc (c : Thread nD τ) ↦[arg6.view.set]{fullShare} f6) ∗
      (arg7.view.loc (c : Thread nD τ) ↦[arg7.view.set]{fullShare} f7) ∗
      (∃ g, ⌜arg8.view.read (Elt F) g = outOf Xp Lo (arg1.view.read (Elt F) f1) (arg3.view.read (Elt F) f3) (arg4.view.read (Elt F) f4) (arg5.view.read (Elt F) f5) (arg7.view.read (Elt F) f7)⌝ ∗ (arg8.view.loc (c : Thread nD τ) ↦[arg8.view.set]{fullShare} g)) ∗
      (∃ g, ⌜arg9.view.read (Elt F) g = Xp⌝ ∗ (arg9.view.loc (c : Thread nD τ) ↦[arg9.view.set]{fullShare} g)) ∗
      (∃ g, ⌜arg10.view.read (Elt F) g = Lo⌝ ∗ (arg10.view.loc (c : Thread nD τ) ↦[arg10.view.set]{fullShare} g)) ∗
      (∃ g, (arg11.view.loc (c : Thread nD τ) ↦[arg11.view.set]{fullShare} g)) ∗
      (∃ g, (arg12.view.loc (c : Thread nD τ) ↦[arg12.view.set]{fullShare} g)) ∗
      (∃ g, (arg13.view.loc (c : Thread nD τ) ↦[arg13.view.set]{fullShare} g)))) : sProp 𝕄G) := by
  simp only [cc0_qlora_eq_skeleton]; unfold cc0_qlora_skel
  iintro ⟨H1, H2, H3, H4, H5, H6, H7, H8, H9, H10, H11, H12, H13⟩
  sl_exec (disch := sl_exact hc)
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr
    swap; · iexact H8
    ipureintro
    refine (View.read_writes_full _ _ _ _ _).trans ?_
    exact out_of 𝒱₀ c i arg1 harg1 arg2 harg2 arg3 harg3 arg4 harg4 arg5 harg5 arg6 harg6 arg7 harg7 arg8 harg8 arg9 harg9 arg10 harg10 arg11 harg11 arg12 harg12 arg13 harg13 f1 f3 f4 f5 f7 f12 none _ _ _ _ _ _ _ _ _ Xp Lo rfl rfl h9
      (am_eq arg1 arg4 arg5 arg11 f1 f4 f5 _) rfl (acc0_eq arg7 arg13 f7 _ _ Lo ((View.readAt_full arg10.view _ inb_S128x16_S128x16_0_0).trans h10))
  isplitl [H9]
  · iexists _; isplitr
    swap; · iexact H9
    ipureintro
    exact h9
  isplitl [H10]
  · iexists _; isplitr
    swap; · iexact H10
    ipureintro
    exact h10
  isplitl [H11]; · (iexists _; iexact H11)
  isplitl [H12]; · (iexists _; iexact H12)
  iexists _; iexact H13
set_option maxHeartbeats 0 in
/-- The run at the first grid point: it fills the reordered `x` and the low-rank part. -/
theorem run_first (hc : k0_cond1 i = 1#1) (Xp : Vec F S128x16384 .bf16) (Lo : Vec F S128x16 .bf16)
    (hXp : xpOf (arg2.view.read (Elt F) f2) = Xp) (hLo : lowOf (arg2.view.read (Elt F) f2) (arg6.view.read (Elt F) f6) = Lo) :
    (iprop((arg1.view.loc (c : Thread nD τ) ↦[arg1.view.set]{fullShare} f1) ∗
    (arg2.view.loc (c : Thread nD τ) ↦[arg2.view.set]{fullShare} f2) ∗
    (arg3.view.loc (c : Thread nD τ) ↦[arg3.view.set]{fullShare} f3) ∗
    (arg4.view.loc (c : Thread nD τ) ↦[arg4.view.set]{fullShare} f4) ∗
    (arg5.view.loc (c : Thread nD τ) ↦[arg5.view.set]{fullShare} f5) ∗
    (arg6.view.loc (c : Thread nD τ) ↦[arg6.view.set]{fullShare} f6) ∗
    (arg7.view.loc (c : Thread nD τ) ↦[arg7.view.set]{fullShare} f7) ∗
    (arg8.view.loc (c : Thread nD τ) ↦[arg8.view.set]{fullShare} f8) ∗
    (arg9.view.loc (c : Thread nD τ) ↦[arg9.view.set]{fullShare} f9) ∗
    (arg10.view.loc (c : Thread nD τ) ↦[arg10.view.set]{fullShare} f10) ∗
    (arg11.view.loc (c : Thread nD τ) ↦[arg11.view.set]{fullShare} f11) ∗
    (arg12.view.loc (c : Thread nD τ) ↦[arg12.view.set]{fullShare} f12) ∗
    (arg13.view.loc (c : Thread nD τ) ↦[arg13.view.set]{fullShare} f13)) : sProp 𝕄G)
      ⊢ (wp frame (wpE (defs₀ (F := F)) 𝒱₀ (c : Thread nD τ) none) Set.univ
          (cc0_qlora (F := F) i arg1 harg1 arg2 harg2 arg3 harg3 arg4 harg4 arg5 harg5 arg6 harg6 arg7 harg7 arg8 harg8 arg9 harg9 arg10 harg10 arg11 harg11 arg12 harg12 arg13 harg13)
          (fun _ => iprop((arg1.view.loc (c : Thread nD τ) ↦[arg1.view.set]{fullShare} f1) ∗
      (arg2.view.loc (c : Thread nD τ) ↦[arg2.view.set]{fullShare} f2) ∗
      (arg3.view.loc (c : Thread nD τ) ↦[arg3.view.set]{fullShare} f3) ∗
      (arg4.view.loc (c : Thread nD τ) ↦[arg4.view.set]{fullShare} f4) ∗
      (arg5.view.loc (c : Thread nD τ) ↦[arg5.view.set]{fullShare} f5) ∗
      (arg6.view.loc (c : Thread nD τ) ↦[arg6.view.set]{fullShare} f6) ∗
      (arg7.view.loc (c : Thread nD τ) ↦[arg7.view.set]{fullShare} f7) ∗
      (∃ g, ⌜arg8.view.read (Elt F) g = outOf Xp Lo (arg1.view.read (Elt F) f1) (arg3.view.read (Elt F) f3) (arg4.view.read (Elt F) f4) (arg5.view.read (Elt F) f5) (arg7.view.read (Elt F) f7)⌝ ∗ (arg8.view.loc (c : Thread nD τ) ↦[arg8.view.set]{fullShare} g)) ∗
      (∃ g, ⌜arg9.view.read (Elt F) g = Xp⌝ ∗ (arg9.view.loc (c : Thread nD τ) ↦[arg9.view.set]{fullShare} g)) ∗
      (∃ g, ⌜arg10.view.read (Elt F) g = Lo⌝ ∗ (arg10.view.loc (c : Thread nD τ) ↦[arg10.view.set]{fullShare} g)) ∗
      (∃ g, (arg11.view.loc (c : Thread nD τ) ↦[arg11.view.set]{fullShare} g)) ∗
      (∃ g, (arg12.view.loc (c : Thread nD τ) ↦[arg12.view.set]{fullShare} g)) ∗
      (∃ g, (arg13.view.loc (c : Thread nD τ) ↦[arg13.view.set]{fullShare} g)))) : sProp 𝕄G) := by
  simp only [cc0_qlora_eq_skeleton]; unfold cc0_qlora_skel
  iintro ⟨H1, H2, H3, H4, H5, H6, H7, H8, H9, H10, H11, H12, H13⟩
  sl_exec (disch := sl_exact hc)
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr
    swap; · iexact H8
    ipureintro
    refine (View.read_writes_full _ _ _ _ _).trans ?_
    exact out_of 𝒱₀ c i arg1 harg1 arg2 harg2 arg3 harg3 arg4 harg4 arg5 harg5 arg6 harg6 arg7 harg7 arg8 harg8 arg9 harg9 arg10 harg10 arg11 harg11 arg12 harg12 arg13 harg13 f1 f3 f4 f5 f7 f12 none _ _ _ _ _ _ _ _ _ Xp Lo rfl rfl (xp_eq 𝒱₀ c i arg1 harg1 arg2 harg2 arg3 harg3 arg4 harg4 arg5 harg5 arg6 harg6 arg7 harg7 arg8 harg8 arg9 harg9 arg10 harg10 arg11 harg11 arg12 harg12 arg13 harg13 f2 none hc _ rfl _ Xp hXp)
      (am_eq arg1 arg4 arg5 arg11 f1 f4 f5 _) rfl (acc0_eq arg7 arg13 f7 _ _ Lo ((View.readAt_full arg10.view _ inb_S128x16_S128x16_0_0).trans (low_eq arg2 arg6 arg10 f2 f6 _ Lo hLo)))
  isplitl [H9]
  · iexists _; isplitr
    swap; · iexact H9
    ipureintro
    exact xp_eq 𝒱₀ c i arg1 harg1 arg2 harg2 arg3 harg3 arg4 harg4 arg5 harg5 arg6 harg6 arg7 harg7 arg8 harg8 arg9 harg9 arg10 harg10 arg11 harg11 arg12 harg12 arg13 harg13 f2 none hc _ rfl _ Xp hXp
  isplitl [H10]
  · iexists _; isplitr
    swap; · iexact H10
    ipureintro
    exact low_eq arg2 arg6 arg10 f2 f6 _ Lo hLo
  isplitl [H11]; · (iexists _; iexact H11)
  isplitl [H12]; · (iexists _; iexact H12)
  iexists _; iexact H13

end Cert.KernelIdeal.Hand

end
-- ==== Proof.KernelIdeal.Run.lean ====
/- The whole run, at any floats: what every window's staging buffer and the scratch buffers hold
   after each grid point, the body's obligation from the two runs of `Body`, and the program's run. -/
module

public import proofs.«01_k».proof.Proof.KernelIdeal.Body

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- The program has no loop with a variant. -/
abbrev 𝒱₀ : Variants := Variants.none

/-- The first grid point. -/
def t0 : Fin cfg0.N := ⟨0, by decide⟩

/-- The reordered `x`, from `x` as the first point finds it. -/
def xpAll (c : Dev nD) : Vec F S128x16384 .bf16 := xpOf (iblk m c 1 t0)
/-- The low-rank part, from `x` and its factor as the first point finds them. -/
def lowAll (c : Dev nD) : Vec F S128x16 .bf16 := lowOf (iblk m c 1 t0) (iblk m c 5 t0)
/-- The tile point `t` stores. -/
def outAt (c : Dev nD) (t : Fin cfg0.N) : Vec F S128x512 .bf16 :=
  outOf (xpAll m c) (lowAll m c) (iblk m c 0 t) (iblk m c 2 t) (iblk m c 3 t) (iblk m c 4 t) (iblk m c 6 t)

/-- Between points after the first: the reordered `x` and the low-rank part are in their buffers. -/
def kept (c : Dev nD) : sProp 𝕄G :=
  iprop((owns (c : Thread nD τ) (Memref.whole cc0_scratch0) fullShare (xpAll m c)
    ∗ owns (c : Thread nD τ) (Memref.whole cc0_scratch1) fullShare (lowAll m c)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))
    ∗ ∃ r, prngReg c r)

/-- What each staging buffer holds after each point. -/
def afterAt (c : Dev nD) (w : Fin cfg0.W) (t : Fin cfg0.N) : (cfg0.win w).block.Idx → Elt F (cfg0.win w).elt :=
  match w with
  | 0 => iblk m c 0 t
  | 1 => iblk m c 1 t
  | 2 => iblk m c 2 t
  | 3 => iblk m c 3 t
  | 4 => iblk m c 4 t
  | 5 => iblk m c 5 t
  | 6 => iblk m c 6 t
  | 7 => outAt m c t
  | ⟨n + 8, h⟩ => absurd h (Nat.not_lt.2 (Nat.le_add_left _ _))

/-- The proof data. -/
def dats (_ : Fin 1) (c : Dev nD) : Dat τ (Elt F) Unit ℕ (UR sig nD τ) ℕ cfg0 c where
  A w := V m c (Pipeline.arrRef spec0 w)
  after := afterAt m c
  Φ t := if t.val = 0 then Pipeline.ΦA spec0 c else kept m c
  q _ := fullShare
  owed _ := 0

theorem Φ_at (c : Dev nD) (t : Fin (cfg0.N + 1)) :
    (dats m 0 c).Φ t = if t.val = 0 then Pipeline.ΦA spec0 c else kept m c := rfl

theorem Φ_start (c : Dev nD) (t : Fin cfg0.N) :
    (dats m 0 c).Φ t.castSucc = if t.val = 0 then Pipeline.ΦA spec0 c else kept m c :=
  Dat.Φ_castSucc (fun n _ => if n = 0 then Pipeline.ΦA spec0 c else kept m c) t

theorem Φ_end (c : Dev nD) (t : Fin cfg0.N) : (dats m 0 c).Φ t.succ = kept m c := by
  rw [Φ_at]; exact if_neg (Nat.succ_ne_zero _)

theorem kept_to (c : Dev nD) : kept m c ⊢ (Pipeline.ΦA spec0 c : sProp 𝕄G) := by
  unfold kept Pipeline.ΦA
  rw [scopedRest0_eq, owns_whole_eq, owns_whole_eq]
  iintro ⟨⟨⟨%f0, %h0, H0⟩, ⟨%f1, %h1, H1⟩, H2, H3, H4⟩, Hr⟩
  isplitr [Hr]
  swap; · iexact Hr
  isplitl [H0]; · (iexists _; iexact H0)
  isplitl [H1]; · (iexists _; iexact H1)
  isplitl [H2]; · iexact H2
  isplitl [H3]; · iexact H3
  iexact H4

theorem whole_pt (c : Dev nD) (b : Ref sig .tc) (f : Buf (Elt F) ((c : Thread nD τ).loc b)) :
    (((Memref.whole b).view.loc (c : Thread nD τ) ↦[(Memref.whole b).view.set]{fullShare} f) : sProp 𝕄G)
      = (((c : Thread nD τ).loc b) ↦{fullShare} f) := by
  simp only [Memref.view_whole, View.set_whole]

theorem whole_in (c : Dev nD) (b : Ref sig .tc) (f : Buf (Elt F) ((c : Thread nD τ).loc b)) :
    (((c : Thread nD τ).loc b) ↦{fullShare} f : sProp 𝕄G)
      ⊢ ((Memref.whole b).view.loc (c : Thread nD τ) ↦[(Memref.whole b).view.set]{fullShare} f) := by rw [whole_pt]

theorem whole_out (c : Dev nD) (b : Ref sig .tc) (f : Buf (Elt F) ((c : Thread nD τ).loc b)) :
    ((Memref.whole b).view.loc (c : Thread nD τ) ↦[(Memref.whole b).view.set]{fullShare} f : sProp 𝕄G)
      ⊢ (((c : Thread nD τ).loc b) ↦{fullShare} f) := by rw [whole_pt]

/-- The first point's condition. -/
theorem first_iff : ∀ t : Fin cfg0.N, k0_cond1 (grid0.coords t) = 1#1 ↔ t.val = 0 := by decide

set_option maxHeartbeats 0 in
theorem sound_first (c : Dev nD) (t : Fin cfg0.N) (ht : t.val = 0) :
    (iprop((dats m 0 c).Φ t.castSucc ∗ (dats m 0 c).owesAt () t.castSucc ∗
    (∃ d, owns (c : Thread nD τ) (st0_0 t) fullShare ((dats m 0 c).before 0 t d)) ∗
    (∃ d, owns (c : Thread nD τ) (st0_1 t) fullShare ((dats m 0 c).before 1 t d)) ∗
    (∃ d, owns (c : Thread nD τ) (st0_2 t) fullShare ((dats m 0 c).before 2 t d)) ∗
    (∃ d, owns (c : Thread nD τ) (st0_3 t) fullShare ((dats m 0 c).before 3 t d)) ∗
    (∃ d, owns (c : Thread nD τ) (st0_4 t) fullShare ((dats m 0 c).before 4 t d)) ∗
    (∃ d, owns (c : Thread nD τ) (st0_5 t) fullShare ((dats m 0 c).before 5 t d)) ∗
    (∃ d, owns (c : Thread nD τ) (st0_6 t) fullShare ((dats m 0 c).before 6 t d)) ∗
    (∃ d, owns (c : Thread nD τ) (st0_7 t) fullShare ((dats m 0 c).before 7 t d))) : sProp 𝕄G)
      ⊢ (wp frame (wpE (defs₀ (F := F)) 𝒱₀ (c : Thread nD τ) none) Set.univ (bodyAt0 t)
        (fun _ => iprop((dats m 0 c).Φ t.succ ∗ (dats m 0 c).owesAt () t.succ ∗
      owns (c : Thread nD τ) (st0_0 t) fullShare ((dats m 0 c).after 0 t) ∗
      owns (c : Thread nD τ) (st0_1 t) fullShare ((dats m 0 c).after 1 t) ∗
      owns (c : Thread nD τ) (st0_2 t) fullShare ((dats m 0 c).after 2 t) ∗
      owns (c : Thread nD τ) (st0_3 t) fullShare ((dats m 0 c).after 3 t) ∗
      owns (c : Thread nD τ) (st0_4 t) fullShare ((dats m 0 c).after 4 t) ∗
      owns (c : Thread nD τ) (st0_5 t) fullShare ((dats m 0 c).after 5 t) ∗
      owns (c : Thread nD τ) (st0_6 t) fullShare ((dats m 0 c).after 6 t) ∗
      owns (c : Thread nD τ) (st0_7 t) fullShare ((dats m 0 c).after 7 t))) : sProp 𝕄G) := by
  rw [Φ_start, Φ_end, show (dats m 0 c).owesAt () t.succ = (dats m 0 c).owesAt () t.castSucc from rfl]
  rw [if_pos ht]; unfold Pipeline.ΦA; rw [scopedRest0_eq]
  unfold owns
  iintro ⟨⟨⟨⟨%g0, S0⟩, ⟨%g1, S1⟩, ⟨%g2, S2⟩, ⟨%g3, S3⟩, ⟨%g4, S4⟩⟩, Hr⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩⟩
  replace h0 := h0.trans (before0_0_of m (dats m 0 c) rfl (fun _ => rfl) t d0)
  replace h1 := h1.trans (before0_1_of m (dats m 0 c) rfl (fun _ => rfl) t d1)
  replace h2 := h2.trans (before0_2_of m (dats m 0 c) rfl (fun _ => rfl) t d2)
  replace h3 := h3.trans (before0_3_of m (dats m 0 c) rfl (fun _ => rfl) t d3)
  replace h4 := h4.trans (before0_4_of m (dats m 0 c) rfl (fun _ => rfl) t d4)
  replace h5 := h5.trans (before0_5_of m (dats m 0 c) rfl (fun _ => rfl) t d5)
  replace h6 := h6.trans (before0_6_of m (dats m 0 c) rfl (fun _ => rfl) t d6)
  have hout : outOf (xpAll m c) (lowAll m c) ((st0_0 t).view.read (Elt F) f0) ((st0_2 t).view.read (Elt F) f2) ((st0_3 t).view.read (Elt F) f3)
      ((st0_4 t).view.read (Elt F) f4) ((st0_6 t).view.read (Elt F) f6) = (dats m 0 c).after 7 t := by
    rw [h0, h2, h3, h4, h6]; rfl
  have htt : t = t0 := Fin.ext ht
  have hX : xpOf ((st0_1 t).view.read (Elt F) f1) = xpAll m c := by rw [h1, htt]; rfl
  have hL : lowOf ((st0_1 t).view.read (Elt F) f1) ((st0_5 t).view.read (Elt F) f5) = lowAll m c := by rw [h1, h5, htt]; rfl
  iapply (wp_wand_r frame (wpE (defs₀ (F := F)) 𝒱₀ (c : Thread nD τ) none) Set.univ)
  isplitl [H0 H1 H2 H3 H4 H5 H6 H7 S0 S1 S2 S3 S4]
  · iapply (run_first (F := F) 𝒱₀ c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f0 f1 f2 f3 f4 f5 f6 f7 g0 g1 g2 g3 g4 ((first_iff t).2 ht) (xpAll m c) (lowAll m c) hX hL)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · (iapply (whole_in c cc0_scratch0 g0); iexact S0)
    isplitl [S1]; · (iapply (whole_in c cc0_scratch1 g1); iexact S1)
    isplitl [S2]; · (iapply (whole_in c cc0_scratch2 g2); iexact S2)
    isplitl [S3]; · (iapply (whole_in c cc0_scratch3 g3); iexact S3)
    iapply (whole_in c cc0_scratch4 g4); iexact S4
  iintro %a ⟨H0, H1, H2, H3, H4, H5, H6, ⟨%f8, %h8, H7⟩, ⟨%k0, %e0, S0⟩, ⟨%k1, %e1, S1⟩, ⟨%k2, S2⟩, ⟨%k3, S3⟩, ⟨%k4, S4⟩⟩
  isplitl [S0 S1 S2 S3 S4 Hr]
  · unfold kept
    isplitr [Hr]
    swap; · iexact Hr
    isplitl [S0]
    · unfold owns; iexists _; isplitr
      swap; · iexact S0
      ipureintro; exact e0
    isplitl [S1]
    · unfold owns; iexists _; isplitr
      swap; · iexact S1
      ipureintro; exact e1
    isplitl [S2]; · (iexists _; iapply (whole_out c cc0_scratch2 k2); iexact S2)
    isplitl [S3]; · (iexists _; iapply (whole_out c cc0_scratch3 k3); iexact S3)
    iexists _; iapply (whole_out c cc0_scratch4 k4); iexact S4
  isplitl [Ho]; · iexact Ho
  isplitl [H0]
  · iexists _; isplitr
    swap; · iexact H0
    ipureintro; exact h0
  isplitl [H1]
  · iexists _; isplitr
    swap; · iexact H1
    ipureintro; exact h1
  isplitl [H2]
  · iexists _; isplitr
    swap; · iexact H2
    ipureintro; exact h2
  isplitl [H3]
  · iexists _; isplitr
    swap; · iexact H3
    ipureintro; exact h3
  isplitl [H4]
  · iexists _; isplitr
    swap; · iexact H4
    ipureintro; exact h4
  isplitl [H5]
  · iexists _; isplitr
    swap; · iexact H5
    ipureintro; exact h5
  isplitl [H6]
  · iexists _; isplitr
    swap; · iexact H6
    ipureintro; exact h6
  iexists _; isplitr
  swap; · iexact H7
  ipureintro; exact (h8.trans hout)

set_option maxHeartbeats 0 in
theorem sound_later (c : Dev nD) (t : Fin cfg0.N) (ht : t.val ≠ 0) :
    (iprop((dats m 0 c).Φ t.castSucc ∗ (dats m 0 c).owesAt () t.castSucc ∗
    (∃ d, owns (c : Thread nD τ) (st0_0 t) fullShare ((dats m 0 c).before 0 t d)) ∗
    (∃ d, owns (c : Thread nD τ) (st0_1 t) fullShare ((dats m 0 c).before 1 t d)) ∗
    (∃ d, owns (c : Thread nD τ) (st0_2 t) fullShare ((dats m 0 c).before 2 t d)) ∗
    (∃ d, owns (c : Thread nD τ) (st0_3 t) fullShare ((dats m 0 c).before 3 t d)) ∗
    (∃ d, owns (c : Thread nD τ) (st0_4 t) fullShare ((dats m 0 c).before 4 t d)) ∗
    (∃ d, owns (c : Thread nD τ) (st0_5 t) fullShare ((dats m 0 c).before 5 t d)) ∗
    (∃ d, owns (c : Thread nD τ) (st0_6 t) fullShare ((dats m 0 c).before 6 t d)) ∗
    (∃ d, owns (c : Thread nD τ) (st0_7 t) fullShare ((dats m 0 c).before 7 t d))) : sProp 𝕄G)
      ⊢ (wp frame (wpE (defs₀ (F := F)) 𝒱₀ (c : Thread nD τ) none) Set.univ (bodyAt0 t)
        (fun _ => iprop((dats m 0 c).Φ t.succ ∗ (dats m 0 c).owesAt () t.succ ∗
      owns (c : Thread nD τ) (st0_0 t) fullShare ((dats m 0 c).after 0 t) ∗
      owns (c : Thread nD τ) (st0_1 t) fullShare ((dats m 0 c).after 1 t) ∗
      owns (c : Thread nD τ) (st0_2 t) fullShare ((dats m 0 c).after 2 t) ∗
      owns (c : Thread nD τ) (st0_3 t) fullShare ((dats m 0 c).after 3 t) ∗
      owns (c : Thread nD τ) (st0_4 t) fullShare ((dats m 0 c).after 4 t) ∗
      owns (c : Thread nD τ) (st0_5 t) fullShare ((dats m 0 c).after 5 t) ∗
      owns (c : Thread nD τ) (st0_6 t) fullShare ((dats m 0 c).after 6 t) ∗
      owns (c : Thread nD τ) (st0_7 t) fullShare ((dats m 0 c).after 7 t))) : sProp 𝕄G) := by
  rw [Φ_start, Φ_end, show (dats m 0 c).owesAt () t.succ = (dats m 0 c).owesAt () t.castSucc from rfl]
  rw [if_neg ht]; conv_lhs => unfold kept
  unfold owns
  iintro ⟨⟨⟨⟨%g0, %e0, S0⟩, ⟨%g1, %e1, S1⟩, ⟨%g2, S2⟩, ⟨%g3, S3⟩, ⟨%g4, S4⟩⟩, Hr⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩⟩
  replace h0 := h0.trans (before0_0_of m (dats m 0 c) rfl (fun _ => rfl) t d0)
  replace h1 := h1.trans (before0_1_of m (dats m 0 c) rfl (fun _ => rfl) t d1)
  replace h2 := h2.trans (before0_2_of m (dats m 0 c) rfl (fun _ => rfl) t d2)
  replace h3 := h3.trans (before0_3_of m (dats m 0 c) rfl (fun _ => rfl) t d3)
  replace h4 := h4.trans (before0_4_of m (dats m 0 c) rfl (fun _ => rfl) t d4)
  replace h5 := h5.trans (before0_5_of m (dats m 0 c) rfl (fun _ => rfl) t d5)
  replace h6 := h6.trans (before0_6_of m (dats m 0 c) rfl (fun _ => rfl) t d6)
  have hout : outOf (xpAll m c) (lowAll m c) ((st0_0 t).view.read (Elt F) f0) ((st0_2 t).view.read (Elt F) f2) ((st0_3 t).view.read (Elt F) f3)
      ((st0_4 t).view.read (Elt F) f4) ((st0_6 t).view.read (Elt F) f6) = (dats m 0 c).after 7 t := by
    rw [h0, h2, h3, h4, h6]; rfl
  iapply (wp_wand_r frame (wpE (defs₀ (F := F)) 𝒱₀ (c : Thread nD τ) none) Set.univ)
  isplitl [H0 H1 H2 H3 H4 H5 H6 H7 S0 S1 S2 S3 S4]
  · iapply (run_later (F := F) 𝒱₀ c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f0 f1 f2 f3 f4 f5 f6 f7 g0 g1 g2 g3 g4 (fun h => ht ((first_iff t).1 h)) (xpAll m c) (lowAll m c) e0 e1)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · (iapply (whole_in c cc0_scratch2 g2); iexact S2)
    isplitl [S3]; · (iapply (whole_in c cc0_scratch3 g3); iexact S3)
    iapply (whole_in c cc0_scratch4 g4); iexact S4
  iintro %a ⟨H0, H1, H2, H3, H4, H5, H6, ⟨%f8, %h8, H7⟩, ⟨%k0, %e0, S0⟩, ⟨%k1, %e1, S1⟩, ⟨%k2, S2⟩, ⟨%k3, S3⟩, ⟨%k4, S4⟩⟩
  isplitl [S0 S1 S2 S3 S4 Hr]
  · unfold kept
    isplitr [Hr]
    swap; · iexact Hr
    isplitl [S0]
    · unfold owns; iexists _; isplitr
      swap; · iexact S0
      ipureintro; exact e0
    isplitl [S1]
    · unfold owns; iexists _; isplitr
      swap; · iexact S1
      ipureintro; exact e1
    isplitl [S2]; · (iexists _; iapply (whole_out c cc0_scratch2 k2); iexact S2)
    isplitl [S3]; · (iexists _; iapply (whole_out c cc0_scratch3 k3); iexact S3)
    iexists _; iapply (whole_out c cc0_scratch4 k4); iexact S4
  isplitl [Ho]; · iexact Ho
  isplitl [H0]
  · iexists _; isplitr
    swap; · iexact H0
    ipureintro; exact h0
  isplitl [H1]
  · iexists _; isplitr
    swap; · iexact H1
    ipureintro; exact h1
  isplitl [H2]
  · iexists _; isplitr
    swap; · iexact H2
    ipureintro; exact h2
  isplitl [H3]
  · iexists _; isplitr
    swap; · iexact H3
    ipureintro; exact h3
  isplitl [H4]
  · iexists _; isplitr
    swap; · iexact H4
    ipureintro; exact h4
  isplitl [H5]
  · iexists _; isplitr
    swap; · iexact H5
    ipureintro; exact h5
  isplitl [H6]
  · iexists _; isplitr
    swap; · iexact H6
    ipureintro; exact h6
  iexists _; isplitr
  swap; · iexact H7
  ipureintro; exact (h8.trans hout)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  by_cases ht : t.val = 0
  · exact triple_restated (sound_first m c t ht) rfl .rfl fun _ => .rfl
  · exact triple_restated (sound_later m c t ht) rfl .rfl fun _ => .rfl

/-- The run: every array ends at what the proof data says, and every counter at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ 𝒱₀ m ρ main
    (hbody := fun c => (body_obligation m c).loose)
    (hshare := fun c w => by fin_cases w <;> rfl)
    (howed := fun _ _ => rfl) (V₀ := V0 m) (opss := [hostOps1]) (hsub := sfx_sub) (hfresh := sfx_fresh) (hkeep := sfx_keeps)
    (hmain := hmain m 𝒱₀) (hA := fun _ _ => rfl)
    (hin := fun c => by rw [Φ_at]; exact .rfl)
    (hout := fun c => by rw [Φ_at, if_neg (by decide)]; exact kept_to m c)
    (Q' := _) (hQ' := fun _ h => h)

/-- The program runs, its arguments end unchanged and every counter is back at zero. -/
theorem quiet :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨(((h.1 c).2 main_arg0 (Pipeline.mem_restRefs_of main_arg0 (by decide) (by decide))).trans (W_main_arg0 m (dats m) c)),
      ((h.1 c).1 2).trans (((dats m 0 c).arrAt_in 2 rfl _).trans (V_main_arg1 m c)),
      ((h.1 c).1 3).trans (((dats m 0 c).arrAt_in 3 rfl _).trans (V_main_arg2 m c)),
      (((h.1 c).2 main_arg3 (Pipeline.mem_restRefs_of main_arg3 (by decide) (by decide))).trans (W_main_arg3 m (dats m) c)),
      (((h.1 c).2 main_arg4 (Pipeline.mem_restRefs_of main_arg4 (by decide) (by decide))).trans (W_main_arg4 m (dats m) c)),
      ((h.1 c).1 5).trans (((dats m 0 c).arrAt_in 5 rfl _).trans (V_main_arg5 m c)),
      (((h.1 c).2 main_arg6 (Pipeline.mem_restRefs_of main_arg6 (by decide) (by decide))).trans (W_main_arg6 m (dats m) c))⟩, h.2⟩) (run_main m ρ)

end Cert.KernelIdeal.Hand

end
-- ==== Proof.Value.Columns.lean ====
/- Over the extended reals: the kernel's matrix of zeros and ones has one one in each column, so the
   product with it only reorders the columns of `x`; and the low-rank part as a sum. -/
module

public import proofs.«01_k».proof.Proof.KernelIdeal.Values
public import Idealize.ShloMosaic.Lib.Pointwise
public import Idealize.ShloMosaic.PureOps.Ideal.Laws
public import Idealize.ShloMosaic.Lib.Pipeline.Value

@[expose] public section

noncomputable section

namespace Cert.KernelIdeal.Hand

open Idealize.ShloMosaic Idealize.SL.Sem
open Cert.KernelIdeal Cert.KernelIdeal.Gen

/-- Where row `r` of a decoded block of 64 weights stands among the block's 64 weights. -/
def rowOrder (r : ℕ) : ℕ := 2 * (4 * (r % 16 / 2) + 2 * (r % 2) + r / 16 % 2) + (1 - r / 32)

/-- The column of `x` that stands at column `p` of the reordered `x`. -/
def srcCol (p : ℕ) : ℕ := 64 * (p / 64) + rowOrder (p % 64)

theorem rowOrder_lt (r : ℕ) (h : r < 64) : rowOrder r < 64 := by
  unfold rowOrder; omega

theorem srcCol_lt (p : ℕ) (h : p < 16384) : srcCol p < 16384 := by
  have := rowOrder_lt (p % 64) (by omega)
  unfold srcCol; omega

/-- The column each entry of the matrix is compared with, as the kernel computes it from the lane numbers. -/
def colIdx : IVec S256x256 32 :=
  let v321 : IVec S256x256 32 := k0_pay2
  let v401 : IVec S256x256 32 := k0_pay7 v321
  let v403 : IVec S256x256 32 := k0_pay8 v321
  let v427 : BitVec 32 := Scalar.select (Scalar.cmpi .eq 2#32 0#32) 1#32 2#32
  let v415 : BitVec 32 := Scalar.subi (Scalar.extui (Scalar.cmpi .sgt 2#32 0#32)) (Scalar.extui (Scalar.cmpi .slt 2#32 0#32))
  let v422 : IVec S256x256 1 := andi (cmpi .ne (k0_pay9 v321) (broadcast S256x256 v415))
    (cmpi .ne (remsi v401 (broadcast S256x256 2#32)) (broadcast S256x256 0#32))
  let v425 : IVec S256x256 32 := select v422 (subi v403 (broadcast S256x256 1#32)) v403
  let v429 : IVec S256x256 32 := remsi v321 (broadcast S256x256 v427)
  let v437 : IVec S256x256 1 := xori (cmpi .slt v429 (broadcast S256x256 0#32))
    (broadcastTo S256x256 (broadcast S256x256 (Scalar.cmpi .slt v427 0#32) : IVec S256x256 1) broadcasts_S256x256_S256x256)
  let v441 : IVec S256x256 32 := select (andi v437 (cmpi .ne v429 (broadcast S256x256 0#32)))
    (addi v429 (broadcast S256x256 v427)) v429
  let v447 : IVec S256x256 32 := addi (addi (muli (broadcast S256x256 4#32) v425) (muli (broadcast S256x256 2#32) v441))
    (k0_pay6 (k0_pay5 v321))
  addi k0_pay1 (addi (muli (broadcast S256x256 2#32) v447) (subi (broadcast S256x256 1#32) (k0_pay4 v321 32#32 k0_pay3)))

theorem perm_eq : perm (F := Ideal) = truncf .bf16 (sitofp .f32 (extui 32 (cmpi .eq colIdx
    (iota .tc S256x256 32 [0] iota_S256x256_d0_w32)) natLt_1_32)) bitsLt_bf16_f32 := rfl

set_option maxRecDepth 100000 in
theorem colIdx_row0 : ∀ j : Fin 256, colIdx (ix2 0 j) = BitVec.ofNat 32 (srcCol j.val) := by
  decide +kernel

theorem colIdx_row (i j : Fin 256) : colIdx (ix2 i j) = colIdx (ix2 0 j) := rfl

theorem iota_row (i j : Fin 256) : iota .tc S256x256 32 [0] iota_S256x256_d0_w32 (ix2 i j) = BitVec.ofNat 32 i.val := by
  pointwise

/-- The matrix has a one at row `srcCol j` of column `j` and zeros elsewhere. -/
theorem perm_apply (i j : Fin 256) : perm (F := Ideal) (ix2 i j) = if i.val = srcCol j.val then (1 : EReal) else 0 := by
  have hs : srcCol j.val < 256 := by
    have := rowOrder_lt (j.val % 64) (by omega)
    have := j.isLt
    unfold srcCol; omega
  have hi := i.isLt
  have key : perm (F := Ideal) (ix2 i j)
      = (((BitVec.setWidth 32 (IntOp.cmpi .eq (colIdx (ix2 i j)) (iota .tc S256x256 32 [0] iota_S256x256_d0_w32 (ix2 i j)))).toInt : ℝ) : EReal) := by
    rw [perm_eq]; rfl
  rw [key, colIdx_row, colIdx_row0, iota_row]
  by_cases h : i.val = srcCol j.val
  · rw [if_pos h, h]
    simp [IntOp.cmpi]
  · rw [if_neg h]
    have hne : (BitVec.ofNat 32 (srcCol j.val) == BitVec.ofNat 32 i.val) = false := by
      rw [beq_eq_false_iff_ne]
      intro he
      have := congrArg BitVec.toNat he
      simp only [BitVec.toNat_ofNat] at this
      omega
    simp [IntOp.cmpi, hne]

/-- One group of 256 columns, reordered. -/
theorem pay2155_apply (x : Vec Ideal S128x256 .bf16) (s : Fin 128) (j : Fin 256) :
    k0_pay2155 (F := Ideal) perm x (ix2 s j) = x (ix2 s ⟨srcCol j.val, by
      have := rowOrder_lt (j.val % 64) (by omega)
      have := j.isLt
      unfold srcCol; omega⟩) := by
  unfold k0_pay2155
  pointwise
  simp only [perm_apply]
  rw [Finset.sum_eq_single ⟨srcCol j.val, by
      have := rowOrder_lt (j.val % 64) (by omega)
      have := j.isLt
      unfold srcCol; omega⟩]
  · simp
  · intro b _ hb
    have : ¬ b.val = srcCol j.val := fun h => hb (Fin.ext h)
    rw [if_neg this, mul_zero]
  · intro h; exact absurd (Finset.mem_univ _) h

theorem xpPieces_form (X : Vec Ideal S128x16384 .bf16) (n : ℕ) (p : View.Piece (Elt Ideal) S128x16384 .bf16)
    (hp : p ∈ xpPieces X n) : ∃ k, p = ⟨xpRect k, k0_pay2155 perm (View.ld (Val := Elt Ideal) X (xpRect k))⟩ := by
  induction n with
  | zero => simp [xpPieces] at hp
  | succ n ih =>
    unfold xpPieces at hp
    split at hp
    · rcases List.mem_cons.mp hp with h | h
      · exact ⟨_, h⟩
      · exact ih h
    · exact ih hp

/-- Column `p` of the reordered `x` is column `srcCol p` of `x`. -/
theorem xpOf_apply (X : Vec Ideal S128x16384 .bf16) (s : Fin 128) (p : Fin 16384) :
    xpOf X (ix2 s p) = X (ix2 s ⟨srcCol p.val, srcCol_lt _ p.isLt⟩) := by
  refine View.canon_apply_of_pieces (Val := Elt Ideal) (e := .bf16)
    (fun y : S128x16384.Idx => X (ix2 (y 0) ⟨srcCol (y 1).val, srcCol_lt _ (y 1).isLt⟩)) _ ?_ _ (xp_covers X _)
  intro q hq x
  obtain ⟨k, rfl⟩ := xpPieces_form X _ q hq
  have hx := eq_ix2 (n0 := 128) (n1 := 256) x
  rw [hx]
  refine (pay2155_apply _ (x 0) (x 1)).trans ?_
  refine congrArg X ?_
  have hk := Nat.lt_of_lt_of_le k.isLt k0_t1_abs.2.1
  have h1 : (x 1).val < 256 := (x 1).isLt
  have ho : k0_off1 k = ![0, 256 * k.val] := k0_off1_eq k
  have ho0 : k0_off1 k 0 = 0 := by rw [ho]; rfl
  have ho1 : k0_off1 k 1 = 256 * k.val := by rw [ho]; rfl
  funext a
  match a with
  | 0 => exact Fin.ext (by show k0_off1 k 0 + 1 * (x 0).val = k0_off1 k 0 + 1 * (x 0).val; rfl)
  | 1 =>
    refine Fin.ext ?_
    show k0_off1 k 1 + 1 * srcCol (x 1).val = srcCol (k0_off1 k 1 + 1 * (x 1).val)
    rw [ho1]
    have h2 : (256 * k.val + 1 * (x 1).val) % 64 = (x 1).val % 64 := by omega
    unfold srcCol
    rw [h2]
    omega

/-- `2`, as the kernel writes it. -/
theorem ofBits_two : Ideal.ofBits .bf16 0x4000#16 = (2 : EReal) := by
  simp [Ideal.ofBits, Ideal.ieee, -EReal.coe_mul]
  norm_num
  rfl

/-- The low-rank part: twice a sum of products. -/
theorem lowOf_apply (X : Vec Ideal S128x16384 .bf16) (La : Vec Ideal S16x16384 .bf16) (s : Fin 128) (r : Fin 16) :
    lowOf X La (ix2 s r) = (∑ k : Fin 16384, (X (ix2 s k) : EReal) * La (ix2 r k)) * (2 : EReal) := by
  unfold lowOf k0_pay2156
  pointwise
  rw [ofBits_two]

/-- The start of the accumulator. -/
theorem pay2167_apply (T : Vec Ideal S128x16 .bf16) (Lb : Vec Ideal S16x512 .bf16) (s : Fin 128) (o : Fin 512) :
    k0_pay2167 T Lb (ix2 s o) = (∑ r : Fin 16, (T (ix2 s r) : EReal) * Lb (ix2 r o) : EReal) := by
  unfold k0_pay2167
  pointwise

end Cert.KernelIdeal.Hand

end
-- ==== Proof.Value.Decode.lean ====
/- The decoding of one block of packed weights at an index: each tile row reads one nibble of one byte
   and holds the table's bf16 entry for it.  Everything here is about words, at any floats. -/
module

public import proofs.«01_k».proof.Proof.KernelIdeal.Values
public import Idealize.ShloMosaic.Lib.BitcastFour
public import Idealize.ShloMosaic.Lib.Pointwise

@[expose] public section

noncomputable section

namespace Cert.KernelIdeal.Hand

open Idealize.ShloMosaic Idealize.SL.Sem
open Cert.KernelIdeal Cert.KernelIdeal.Gen

variable {F : FTy → Type} [FloatOps F]

/-- A bit of a matrix of `v`-bit words read as `w`-bit words. -/
theorem bitcast_bit {R r n v w : ℕ} (x : (⟨2, ![R, n]⟩ : Shape).Idx → BitVec v)
    (h : (⟨2, ![R, n]⟩ : Shape).Bitcasts v ⟨2, ![r, n]⟩ w) (hv : 0 < v) (a : Fin r) (l : Fin n) (q : ℕ) (hq : q < w)
    (p : Fin R) (hp : p.val = (a.val * w + q) / v) :
    (bitcast ⟨2, ![r, n]⟩ w x h (ix2 a l)).getLsbD q = (x (ix2 p l)).getLsbD ((a.val * w + q) % v) := by
  rw [bitcast_getLsbD x h _ q hq hv]
  refine congrArg₂ BitVec.getLsbD (congrArg x ?_) rfl
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- A bit of a byte row of a matrix of words. -/
theorem byte_bit (x : IVec S8x128 32) (p : Fin 32) (l : Fin 128) (q : ℕ) (hq : q < 8) :
    (bitcast S32x128 8 x bitcasts_S8x128_w32_S32x128_w8 (ix2 p l)).getLsbD q
      = (x (ix2 ⟨p.val / 4, by omega⟩ l)).getLsbD (8 * (p.val % 4) + q) := by
  refine (bitcast_bit (R := 8) (r := 32) x _ (by decide) p l q hq ⟨p.val / 4, by omega⟩ (by show p.val / 4 = _; omega)).trans ?_
  congr 1; omega

/-- A bit of a word of four byte rows. -/
theorem word_bit (x : IVec S32x128 8) (s : Fin 8) (l : Fin 128) (q : ℕ) (hq : q < 32) :
    (bitcast S8x128 32 x bitcasts_S32x128_w8_S8x128_w32 (ix2 s l)).getLsbD q
      = (x (ix2 ⟨4 * s.val + q / 8, by omega⟩ l)).getLsbD (q % 8) := by
  refine (bitcast_bit (R := 32) (r := 8) x _ (by decide) s l q hq ⟨4 * s.val + q / 8, by omega⟩
    (by show 4 * s.val + q / 8 = _; omega)).trans ?_
  congr 1; omega

/-- A bit of a half-word row of a matrix of words. -/
theorem half_bit (x : IVec S8x128 32) (p : Fin 16) (l : Fin 128) (q : ℕ) (hq : q < 16) :
    (bitcast S16x128 16 x bitcasts_S8x128_w32_S16x128_w16 (ix2 p l)).getLsbD q
      = (x (ix2 ⟨p.val / 2, by omega⟩ l)).getLsbD (16 * (p.val % 2) + q) := by
  refine (bitcast_bit (R := 8) (r := 16) x _ (by decide) p l q hq ⟨p.val / 2, by omega⟩ (by show p.val / 2 = _; omega)).trans ?_
  congr 1; omega

/-- The words' bytes. -/
abbrev bytesOf (x : IVec S8x128 32) : IVec S32x128 8 := bitcast S32x128 8 x bitcasts_S8x128_w32_S32x128_w8

theorem mask15_bit : ∀ b : Fin 4, ∀ q : Fin 8, (252645135#32).getLsbD (8 * b.val + q.val) = (15#8).getLsbD q.val := by decide
theorem mask15_low : ∀ q : Fin 8, (15#8).getLsbD q.val = decide (q.val < 4) := by decide

/-- The low nibbles, byte by byte. -/
theorem nibLow_byte (w : IVec S8x128 32) (p : Fin 32) (l : Fin 128) :
    bytesOf (nibLow w) (ix2 p l) = bytesOf w (ix2 p l) &&& 15#8 := by
  apply BitVec.eq_of_getLsbD_eq
  intro q hq
  rw [BitVec.getLsbD_and, byte_bit _ _ _ _ hq, byte_bit _ _ _ _ hq]
  show (w (ix2 ⟨p.val / 4, _⟩ l) &&& 252645135#32).getLsbD _ = _
  rw [BitVec.getLsbD_and, mask15_bit ⟨p.val % 4, by omega⟩ ⟨q, hq⟩]

/-- The high nibbles, byte by byte. -/
theorem nibHigh_byte (w : IVec S8x128 32) (p : Fin 32) (l : Fin 128) :
    bytesOf (nibHigh w) (ix2 p l) = bytesOf w (ix2 p l) >>> 4 := by
  apply BitVec.eq_of_getLsbD_eq
  intro q hq
  rw [BitVec.getLsbD_ushiftRight, byte_bit _ _ _ _ hq]
  show ((IntOp.shrsi .vector (w (ix2 ⟨p.val / 4, _⟩ l)) 4#32) &&& 252645135#32).getLsbD _ = _
  have e : IntOp.shrsi .vector (w (ix2 ⟨p.val / 4, by omega⟩ l)) 4#32 = (w (ix2 ⟨p.val / 4, by omega⟩ l)).sshiftRight 4 := by
    unfold IntOp.shrsi; rw [if_pos (by decide)]; rfl
  rw [e, BitVec.getLsbD_and, mask15_bit ⟨p.val % 4, by omega⟩ ⟨q, hq⟩, mask15_low]
  by_cases h4 : q < 4
  · rw [BitVec.getLsbD_sshiftRight, byte_bit _ _ _ _ (by omega)]
    have h1 : ¬ 32 ≤ 8 * (p.val % 4) + q := by omega
    have h2 : 4 + (8 * (p.val % 4) + q) < 32 := by omega
    have h3 : 4 + (8 * (p.val % 4) + q) = 8 * (p.val % 4) + (4 + q) := by omega
    simp [h4, h1, h2, h3]
    intro h; exfalso; omega
  · have : (bytesOf w (ix2 p l)).getLsbD (4 + q) = false := BitVec.getLsbD_of_ge _ _ (by omega)
    rw [this]; simp [h4]

theorem mask255_bit : ∀ h : Fin 2, ∀ q : Fin 16, (16711935#32).getLsbD (16 * h.val + q.val) = decide (q.val < 8) := by decide

/-- The even rows' codes: byte row `2 p` of each table read, the high one above the low one. -/
theorem evenW_half (lo hi : IVec S32x128 8) (p : Fin 16) (l : Fin 128) :
    bitcast S16x128 16 (evenW lo hi) bitcasts_S8x128_w32_S16x128_w16 (ix2 p l)
      = hi (ix2 ⟨2 * p.val, by omega⟩ l) ++ lo (ix2 ⟨2 * p.val, by omega⟩ l) := by
  apply BitVec.eq_of_getLsbD_eq
  intro q hq
  rw [half_bit _ _ _ _ hq, BitVec.getLsbD_append]
  show ((bitcast S8x128 32 lo bitcasts_S32x128_w8_S8x128_w32 (ix2 ⟨p.val / 2, by omega⟩ l) &&& 16711935#32) |||
    IntOp.shli .vector (bitcast S8x128 32 hi bitcasts_S32x128_w8_S8x128_w32 (ix2 ⟨p.val / 2, by omega⟩ l) &&& 16711935#32) 8#32).getLsbD _ = _
  have e (x : BitVec 32) : IntOp.shli .vector x 8#32 = x <<< 8 := by
    unfold IntOp.shli; rw [if_pos (by decide)]; rfl
  rw [e, BitVec.getLsbD_or, BitVec.getLsbD_and, BitVec.getLsbD_shiftLeft, BitVec.getLsbD_and,
    mask255_bit ⟨p.val % 2, by omega⟩ ⟨q, hq⟩]
  by_cases h8 : q < 8
  · have hz : (decide (16 * (p.val % 2) + q < 32) && !decide (16 * (p.val % 2) + q < 8) &&
        ((bitcast S8x128 32 hi bitcasts_S32x128_w8_S8x128_w32 (ix2 ⟨p.val / 2, by omega⟩ l)).getLsbD (16 * (p.val % 2) + q - 8) &&
          (16711935#32).getLsbD (16 * (p.val % 2) + q - 8))) = false := by
      by_cases hp : p.val % 2 = 0
      · have : 16 * (p.val % 2) + q < 8 := by omega
        simp [this]
      · have h1 : 16 * (p.val % 2) + q - 8 = 16 * (0 : Fin 2).val + (⟨8 + q, by omega⟩ : Fin 16).val := by
          show _ = 16 * 0 + (8 + q); omega
        rw [h1, mask255_bit]
        simp
    rw [hz, word_bit _ _ _ _ (by omega)]
    have h1 : 4 * (p.val / 2) + (16 * (p.val % 2) + q) / 8 = 2 * p.val := by omega
    have h2 : (16 * (p.val % 2) + q) % 8 = q := by omega
    simp [h8, h1, h2]
  · have h1 : 16 * (p.val % 2) + q - 8 = 16 * (⟨p.val % 2, by omega⟩ : Fin 2).val + (⟨q - 8, by omega⟩ : Fin 16).val := by
      show _ = 16 * (p.val % 2) + (q - 8); omega
    have hw := word_bit hi ⟨p.val / 2, by omega⟩ l (16 * (p.val % 2) + (q - 8)) (by omega)
    rw [h1, mask255_bit]
    have h2 : 4 * (p.val / 2) + (16 * (p.val % 2) + (q - 8)) / 8 = 2 * p.val := by omega
    have h3 : (16 * (p.val % 2) + (q - 8)) % 8 = q - 8 := by omega
    have h4 : 16 * (p.val % 2) + q < 32 := by omega
    have h5 : ¬ 16 * (p.val % 2) + q < 8 := by omega
    have h6 : q - 8 < 8 := by omega
    simp only [h2, h3] at hw
    simp [h8, h4, h5, h6, hw]

theorem rowsEven_row0 : ∀ p : Fin 32, rowsEven (ix2 p 0) = BitVec.ofBool (p.val % 2 == 0) := by
  decide +kernel

/-- Which byte rows are even. -/
theorem rowsEven_apply (p : Fin 32) (l : Fin 128) : rowsEven (ix2 p l) = BitVec.ofBool (p.val % 2 == 0) :=
  (show rowsEven (ix2 p l) = rowsEven (ix2 p 0) from rfl).trans (rowsEven_row0 p)

theorem sel_true (a b : BitVec 8) : Scalar.select (BitVec.ofBool true) a b = a := rfl
theorem sel_false (a b : BitVec 8) : Scalar.select (BitVec.ofBool false) a b = b := rfl

/-- The odd rows' codes: byte row `2 p + 1` of each table read. -/
theorem oddW_half (lo hi : IVec S32x128 8) (p : Fin 16) (l : Fin 128) :
    bitcast S16x128 16 (oddW rowsEven lo hi) bitcasts_S8x128_w32_S16x128_w16 (ix2 p l)
      = hi (ix2 ⟨2 * p.val + 1, by omega⟩ l) ++ lo (ix2 ⟨2 * p.val + 1, by omega⟩ l) := by
  apply BitVec.eq_of_getLsbD_eq
  intro q hq
  rw [half_bit _ _ _ _ hq, BitVec.getLsbD_append]
  unfold oddW
  rw [word_bit _ _ _ _ (by omega)]
  show (Scalar.select (rowsEven _) (bytesOf _ _) (hi _)).getLsbD _ = _
  rw [rowsEven_apply]
  have e (x : BitVec 32) : IntOp.shrui .vector x 8#32 = x >>> 8 := by
    unfold IntOp.shrui; rw [if_pos (by decide)]; rfl
  by_cases h8 : q < 8
  · have h1 : 4 * (p.val / 2) + (16 * (p.val % 2) + q) / 8 = 2 * p.val := by omega
    have h2 : (16 * (p.val % 2) + q) % 8 = q := by omega
    have hs : ((2 * p.val) % 2 == 0) = true := by simp
    simp only [h1, h2, hs, decide_eq_true h8, cond_true]
    rw [sel_true, byte_bit _ _ _ _ h8]
    show (IntOp.shrui .vector (bitcast S8x128 32 lo bitcasts_S32x128_w8_S8x128_w32 (ix2 ⟨2 * p.val / 4, by omega⟩ l)) 8#32).getLsbD _ = _
    rw [e, BitVec.getLsbD_ushiftRight, word_bit _ _ _ _ (by show 8 + (8 * (2 * p.val % 4) + q) < 32; omega)]
    have h3 : 4 * (2 * p.val / 4) + (8 + (8 * (2 * p.val % 4) + q)) / 8 = 2 * p.val + 1 := by omega
    have h4 : (8 + (8 * (2 * p.val % 4) + q)) % 8 = q := by omega
    simp only [h3, h4, if_pos h8]
  · have h1 : 4 * (p.val / 2) + (16 * (p.val % 2) + q) / 8 = 2 * p.val + 1 := by omega
    have h2 : (16 * (p.val % 2) + q) % 8 = q - 8 := by omega
    have hs : ((2 * p.val + 1) % 2 == 0) = false := by
      have : (2 * p.val + 1) % 2 = 1 := by omega
      rw [this]; rfl
    simp only [h1, h2, hs, decide_eq_false h8, cond_false]
    rw [sel_false, if_neg h8]

/-- The table's entry for code `c`: the high byte's table above the low byte's. -/
def codeWord (c : Fin 128) : BitVec 16 := (tblHigh (ix2 0 c)).setWidth 8 ++ (tblLow (ix2 0 c)).setWidth 8

/-- A table read at a nibble. -/
theorem look_apply (tbl : IVec S32x128 32) (htbl : ∀ p c, tbl (ix2 p c) = tbl (ix2 0 c)) (nib : IVec S8x128 32) (p : Fin 32) (l : Fin 128)
    (hb : (bytesOf nib (ix2 p l)).toNat < 16) :
    look tbl nib (ix2 p l) = (tbl (ix2 0 ⟨(bytesOf nib (ix2 p l)).toNat, by omega⟩)).setWidth 8 := by
  have e : look tbl nib (ix2 p l) = (tbl (ix2 p ⟨((bytesOf nib (ix2 p l)).signExtend 32).toNat % 128, Nat.mod_lt _ (by decide)⟩)).setWidth 8 := by
    unfold look bytesOf
    pointwise
  rw [e, htbl]
  congr 3
  apply Fin.ext
  show ((bytesOf nib (ix2 p l)).signExtend 32).toNat % 128 = (bytesOf nib (ix2 p l)).toNat
  generalize bytesOf nib (ix2 p l) = y at hb ⊢
  have hm : y.msb = false := by rw [BitVec.msb_eq_false_iff_two_mul_lt]; omega
  rw [BitVec.signExtend_eq_setWidth_of_msb_false hm, BitVec.toNat_setWidth]
  omega

theorem tblLow_row (p : Fin 32) (c : Fin 128) : tblLow (ix2 p c) = tblLow (ix2 0 c) := rfl
theorem tblHigh_row (p : Fin 32) (c : Fin 128) : tblHigh (ix2 p c) = tblHigh (ix2 0 c) := rfl

/-- The nibble a tile reads of a byte: tiles 0 and 1 the low one, 2 and 3 the high one. -/
def nibbleOf (hiNib : Prop) [Decidable hiNib] (b : BitVec 8) : Fin 128 :=
  if hiNib then ⟨b.toNat / 16, by omega⟩ else ⟨b.toNat % 16, by omega⟩

/-- An even or odd row of a low-nibble or high-nibble tile. -/
theorem tile_apply (w : IVec S8x128 32) (am : FVec F S16x128 .bf16) (v : Fin 4) (p : Fin 16) (l : Fin 128) :
    tile tblLow tblHigh rowsEven w am v (ix2 p l)
      = FloatOps.mulf (FloatOps.ofBits .bf16 (codeWord (nibbleOf (2 ≤ v.val) (bytesOf w (ix2 ⟨2 * p.val + v.val % 2, by omega⟩ l)))))
          (am (ix2 p l)) := by
  have lo (r : Fin 32) : (bytesOf (nibLow w) (ix2 r l)).toNat = (bytesOf w (ix2 r l)).toNat % 16 := by
    rw [nibLow_byte, BitVec.toNat_and]
    exact Nat.and_two_pow_sub_one_eq_mod _ 4
  have hi (r : Fin 32) : (bytesOf (nibHigh w) (ix2 r l)).toNat = (bytesOf w (ix2 r l)).toNat / 16 := by
    rw [nibHigh_byte, BitVec.toNat_ushiftRight, Nat.shiftRight_eq_div_pow]
  have bb (r : Fin 32) := (bytesOf w (ix2 r l)).isLt
  have key (n : IVec S8x128 32) (r : Fin 32) (c : Fin 128) (h : (bytesOf n (ix2 r l)).toNat = c.val) (hc : c.val < 16) :
      look tblHigh n (ix2 r l) ++ look tblLow n (ix2 r l) = codeWord c := by
    rw [look_apply _ tblHigh_row _ _ _ (by omega), look_apply _ tblLow_row _ _ _ (by omega)]
    simp only [h]
    rfl
  match v with
  | 0 =>
    show FloatOps.mulf (FloatOps.ofBits .bf16 (bitcast S16x128 16 (evenW _ _) bitcasts_S8x128_w32_S16x128_w16 (ix2 p l))) _ = _
    rw [evenW_half, key (nibLow w) _ (nibbleOf (2 ≤ 0) (bytesOf w (ix2 ⟨2 * p.val, by omega⟩ l))) (lo _) (Nat.mod_lt _ (by decide))]; rfl
  | 1 =>
    show FloatOps.mulf (FloatOps.ofBits .bf16 (bitcast S16x128 16 (oddW _ _ _) bitcasts_S8x128_w32_S16x128_w16 (ix2 p l))) _ = _
    rw [oddW_half, key (nibLow w) _ (nibbleOf (2 ≤ 1) (bytesOf w (ix2 ⟨2 * p.val + 1, by omega⟩ l))) (lo _) (Nat.mod_lt _ (by decide))]; rfl
  | 2 =>
    show FloatOps.mulf (FloatOps.ofBits .bf16 (bitcast S16x128 16 (evenW _ _) bitcasts_S8x128_w32_S16x128_w16 (ix2 p l))) _ = _
    rw [evenW_half, key (nibHigh w) _ (nibbleOf (2 ≤ 2) (bytesOf w (ix2 ⟨2 * p.val, by omega⟩ l))) (hi _)
      (by have := bb ⟨2 * p.val, by omega⟩; show (bytesOf w _).toNat / 16 < 16; omega)]; rfl
  | 3 =>
    show FloatOps.mulf (FloatOps.ofBits .bf16 (bitcast S16x128 16 (oddW _ _ _) bitcasts_S8x128_w32_S16x128_w16 (ix2 p l))) _ = _
    rw [oddW_half, key (nibHigh w) _ (nibbleOf (2 ≤ 3) (bytesOf w (ix2 ⟨2 * p.val + 1, by omega⟩ l))) (hi _)
      (by have := bb ⟨2 * p.val + 1, by omega⟩; show (bytesOf w _).toNat / 16 < 16; omega)]; rfl

/-- The bytes of a block's words are the transposed tile's rows of the block. -/
theorem block_bytes (w : Vec F S128x128 .i8) (b : Fin 4) (p : Fin 32) (l : Fin 128) :
    bytesOf (blockW (wordsT w) b) (ix2 p l) = (w : IVec S128x128 8) (ix2 l ⟨32 * b.val + p.val, by omega⟩) := by
  apply BitVec.eq_of_getLsbD_eq
  intro q hq
  rw [byte_bit _ _ _ _ hq]
  have e : blockW (wordsT w) b (ix2 ⟨p.val / 4, by omega⟩ l) = wordsT w (ix2 ⟨8 * b.val + p.val / 4, by omega⟩ l) := by
    unfold blockW
    pointwise
  rw [e]
  unfold wordsT
  have h1 : ((8 * b.val + p.val / 4) * 32 + (8 * (p.val % 4) + q)) % 8 = q := by omega
  refine (bitcast_bit (R := 128) (r := 32) _ _ (by decide) _ l _ (by omega) ⟨32 * b.val + p.val, by omega⟩
    (by show 32 * b.val + p.val = ((8 * b.val + p.val / 4) * 32 + (8 * (p.val % 4) + q)) / 8; omega)).trans ?_
  show BitVec.getLsbD _ (((8 * b.val + p.val / 4) * 32 + (8 * (p.val % 4) + q)) % 8) = _
  rw [h1]
  congr 1
  pointwise

end Cert.KernelIdeal.Hand

end
-- ==== Proof.Value.Tile.lean ====
/- Over the extended reals: a decoded chunk of weights and the scales at an index. -/
module

public import proofs.«01_k».proof.Proof.Value.Columns
public import proofs.«01_k».proof.Proof.Value.Decode

@[expose] public section

noncomputable section

namespace Cert.KernelIdeal.Hand

open Idealize.ShloMosaic Idealize.SL.Sem
open Cert.KernelIdeal Cert.KernelIdeal.Gen

/-- The value the table gives a code. -/
def codeVal (c : Fin 128) : EReal := Ideal.ofBits .bf16 (codeWord c)

/-- The value weight `q` (of 16384) decodes to before scaling, from its row's packed bytes: even weights
    are the high nibbles, odd ones the low nibbles. -/
def rawVal (byte : Fin 8192 → BitVec 8) (q : Fin 16384) : EReal :=
  codeVal (nibbleOf (q.val % 2 = 0) (byte ⟨q.val / 2, by omega⟩))

/-! ## A decoded chunk -/

section chunk
variable (W : Vec Ideal S512x8192 .i8) (A : Vec Ideal S8x32x512 .f32) (k : Fin k0_t2_loop.trips)

theorem block_form (jt : Fin 8) (n b : Fin 4) (p : View.Piece (Elt Ideal) S2048x512 .bf16)
    (hp : p ∈ blockPieces tblLow tblHigh rowsEven W A k jt n b) : ∃ v, p = piece tblLow tblHigh rowsEven W A k jt n b v := by
  simp only [blockPieces, List.mem_cons, List.not_mem_nil, or_false] at hp
  rcases hp with hp | hp | hp | hp <;> exact ⟨_, hp⟩

theorem lane_form (jt : Fin 8) (n : Fin 4) (p : View.Piece (Elt Ideal) S2048x512 .bf16)
    (hp : p ∈ lanePieces tblLow tblHigh rowsEven W A k jt n) : ∃ b v, p = piece tblLow tblHigh rowsEven W A k jt n b v := by
  simp only [lanePieces, List.mem_append] at hp
  rcases hp with hp | hp | hp | hp <;> exact ⟨_, block_form W A k _ _ _ p hp⟩

theorem group_form (jt : Fin 8) (p : View.Piece (Elt Ideal) S2048x512 .bf16)
    (hp : p ∈ groupPieces tblLow tblHigh rowsEven W A k jt) : ∃ n b v, p = piece tblLow tblHigh rowsEven W A k jt n b v := by
  simp only [groupPieces, List.mem_append] at hp
  rcases hp with hp | hp | hp | hp <;> exact ⟨_, lane_form W A k _ _ p hp⟩

theorem chunk_form (p : View.Piece (Elt Ideal) S2048x512 .bf16)
    (hp : p ∈ chunkPieces tblLow tblHigh rowsEven W A k) : ∃ jt n b v, p = piece tblLow tblHigh rowsEven W A k jt n b v := by
  simp only [chunkPieces, List.mem_append] at hp
  rcases hp with hp | hp | hp | hp | hp | hp | hp | hp <;> exact ⟨_, group_form W A k _ p hp⟩

theorem k_lt : k.val < 8 := Nat.lt_of_lt_of_le k.isLt t2_trips.le

/-- The weight of `x`'s order that row `i` of chunk `k` holds. -/
abbrev chunkCol (i : Fin 2048) : Fin 16384 :=
  ⟨srcCol (2048 * k.val + i.val), srcCol_lt _ (by have := k_lt k; omega)⟩

/-- The packed weights a trip reads, at an index. -/
theorem wAt_apply (jt : Fin 8) (n : Fin 4) (l c : Fin 128) :
    (wAt W k jt n : IVec S128x128 8) (ix2 l c)
      = (W : IVec S512x8192 8) (ix2 ⟨128 * n.val + l.val, by omega⟩
          ⟨1024 * k.val + 128 * jt.val + c.val, by have := k_lt k; omega⟩) := by
  refine congrArg W ?_
  have ho : k0_off2 k (BitVec.ofNat 32 (128 * jt.val)) 1 = 1024 * k.val + 128 * jt.val := by rw [k0_off2_eq]; rfl
  funext a
  match a with
  | 0 => exact Fin.ext (by show 128 * n.val + 1 * l.val = 128 * n.val + l.val; omega)
  | 1 => exact Fin.ext (by
      show k0_off2 k (BitVec.ofNat 32 (128 * jt.val)) 1 + 1 * c.val = 1024 * k.val + 128 * jt.val + c.val
      rw [ho]; omega)

/-- The scales a tile is multiplied by, at an index. -/
theorem amaxT_apply (jt : Fin 8) (n b : Fin 4) (p : Fin 16) (l : Fin 128) :
    amaxT (aAt A k jt n b) (ix2 p l)
      = A (ix3 ⟨k.val, k_lt k⟩ ⟨4 * jt.val + b.val, by omega⟩ ⟨128 * n.val + l.val, by omega⟩) := by
  have e : amaxT (aAt A k jt n b) (ix2 p l) = aAt A k jt n b (ix3 0 0 l) := by
    unfold amaxT
    pointwise
  rw [e]
  refine congrArg A ?_
  have ho : k0_off3 k 0 = k.val := by rw [k0_off3_eq]; rfl
  funext a
  match a with
  | 0 => exact Fin.ext (by show k0_off3 k 0 + 1 * 0 = k.val; rw [ho]; omega)
  | 1 => exact Fin.ext (by show 4 * jt.val + b.val + 1 * 0 = 4 * jt.val + b.val; omega)
  | 2 => exact Fin.ext (by show 128 * n.val + 1 * l.val = 128 * n.val + l.val; omega)

/-- A decoded tile at an index. -/
theorem tile_at (jt : Fin 8) (n b v : Fin 4) (p : Fin 16) (l : Fin 128) :
    tile tblLow tblHigh rowsEven (blockW (wordsT (wAt W k jt n)) b) (amaxT (aAt A k jt n b)) v (ix2 p l)
      = (rawVal (fun j => (W : IVec S512x8192 8) (ix2 ⟨128 * n.val + l.val, by omega⟩ j))
            (chunkCol k ⟨256 * jt.val + 64 * b.val + 16 * v.val + p.val, by omega⟩)
          * (A (ix3 ⟨k.val, k_lt k⟩ ⟨4 * jt.val + b.val, by omega⟩ ⟨128 * n.val + l.val, by omega⟩) : EReal) : EReal) := by
  rw [tile_apply, block_bytes, wAt_apply, amaxT_apply]
  refine congrArg (· * (A (ix3 ⟨k.val, k_lt k⟩ ⟨4 * jt.val + b.val, by omega⟩ ⟨128 * n.val + l.val, by omega⟩) : EReal)) ?_
  have hk := k_lt k
  have hm : (2048 * k.val + (256 * jt.val + 64 * b.val + 16 * v.val + p.val)) % 64 = 16 * v.val + p.val := by omega
  have hd : (2048 * k.val + (256 * jt.val + 64 * b.val + 16 * v.val + p.val)) / 64 = 32 * k.val + 4 * jt.val + b.val := by omega
  have hc : (chunkCol k ⟨256 * jt.val + 64 * b.val + 16 * v.val + p.val, by omega⟩).val
      = 64 * (32 * k.val + 4 * jt.val + b.val) + (2 * (2 * p.val + v.val % 2) + (1 - v.val / 2)) := by
    show srcCol (2048 * k.val + (256 * jt.val + 64 * b.val + 16 * v.val + p.val)) = _
    unfold srcCol rowOrder
    rw [hm, hd]
    omega
  unfold rawVal
  refine congrArg codeVal ?_
  have hv : (2 ≤ v.val) ↔ ((chunkCol k ⟨256 * jt.val + 64 * b.val + 16 * v.val + p.val, by omega⟩).val % 2 = 0) := by
    rw [hc]
    generalize v.val % 2 = u
    have h4 := v.isLt
    by_cases h2 : 2 ≤ v.val
    · have : v.val / 2 = 1 := by omega
      rw [this]; omega
    · have : v.val / 2 = 0 := by omega
      rw [this]; omega
  have hj : (⟨1024 * k.val + 128 * jt.val + (32 * b.val + (2 * p.val + v.val % 2)), by omega⟩ : Fin 8192)
      = ⟨(chunkCol k ⟨256 * jt.val + 64 * b.val + 16 * v.val + p.val, by omega⟩).val / 2, by omega⟩ := by
    refine Fin.ext ?_
    show 1024 * k.val + 128 * jt.val + (32 * b.val + (2 * p.val + v.val % 2)) = (chunkCol k _).val / 2
    rw [hc]
    generalize v.val % 2 = u
    have hw : 1 - v.val / 2 ≤ 1 := Nat.sub_le _ _
    generalize 1 - v.val / 2 = w at hw
    omega
  show nibbleOf (2 ≤ v.val) ((W : IVec S512x8192 8) (ix2 _ ⟨1024 * k.val + 128 * jt.val + (32 * b.val + (2 * p.val + v.val % 2)), by omega⟩)) = _
  rw [hj]
  unfold nibbleOf
  exact if_congr hv rfl rfl

/-- Row `i`, output `o` of decoded chunk `k`. -/
theorem wdOf_apply (i : Fin 2048) (o : Fin 512) :
    wdOf W A k (ix2 i o)
      = (rawVal (fun j => (W : IVec S512x8192 8) (ix2 o j)) (chunkCol k i)
          * (A (ix3 ⟨k.val, k_lt k⟩ ⟨i.val / 64, by omega⟩ o) : EReal) : EReal) := by
  let G : Fin 2048 → Fin 512 → EReal := fun i o => (rawVal (fun j => (W : IVec S512x8192 8) (ix2 o j)) (chunkCol k i)
          * (A (ix3 ⟨k.val, k_lt k⟩ ⟨i.val / 64, by omega⟩ o) : EReal) : EReal)
  refine View.canon_apply_of_pieces (Val := Elt Ideal) (e := .bf16) (fun y : S2048x512.Idx => G (y 0) (y 1)) _ ?_ _ (chunk_covers W A k _)
  intro q hq x
  obtain ⟨jt, n, b, v, rfl⟩ := chunk_form W A k q hq
  have key : ∀ (p : Fin 16) (l : Fin 128), (piece tblLow tblHigh rowsEven W A k jt n b v).2 (ix2 p l)
      = G ((dRect jt n b v).emb (ix2 p l) 0) ((dRect jt n b v).emb (ix2 p l) 1) := by
    intro p l
    have e0 : (dRect jt n b v).emb (ix2 p l) 0 = (⟨256 * jt.val + 64 * b.val + 16 * v.val + p.val, by omega⟩ : Fin 2048) :=
      Fin.ext (by show (256 * jt.val + 64 * b.val + 16 * v.val) + 1 * p.val = 256 * jt.val + 64 * b.val + 16 * v.val + p.val; omega)
    have e1 : (dRect jt n b v).emb (ix2 p l) 1 = (⟨128 * n.val + l.val, by omega⟩ : Fin 512) :=
      Fin.ext (by show 128 * n.val + 1 * l.val = 128 * n.val + l.val; omega)
    rw [e0, e1]
    have hb : (⟨(256 * jt.val + 64 * b.val + 16 * v.val + p.val) / 64, by omega⟩ : Fin 32) = ⟨4 * jt.val + b.val, by omega⟩ :=
      Fin.ext (by show (256 * jt.val + 64 * b.val + 16 * v.val + p.val) / 64 = 4 * jt.val + b.val; omega)
    show shapeCast S16x128 (tile tblLow tblHigh rowsEven (blockW (wordsT (wAt W k jt n)) b) (amaxT (aAt A k jt n b)) v)
        shapeCasts_S16x128_S16x128 (ix2 p l)
      = (rawVal (fun j => (W : IVec S512x8192 8) (ix2 ⟨128 * n.val + l.val, by omega⟩ j))
            (chunkCol k ⟨256 * jt.val + 64 * b.val + 16 * v.val + p.val, by omega⟩)
          * (A (ix3 ⟨k.val, k_lt k⟩ ⟨(256 * jt.val + 64 * b.val + 16 * v.val + p.val) / 64, by omega⟩ ⟨128 * n.val + l.val, by omega⟩) : EReal) : EReal)
    rw [shapeCast_self, tile_at, hb]
  have hx : x = (ix2 (x 0) (x 1) : S16x128.Idx) := eq_ix2 (n0 := 16) (n1 := 128) x
  rw [hx]
  exact key (x 0) (x 1)

end chunk

/-! ## The scales -/

/-- A scale: code times scale plus offset. -/
theorem amVal_apply (n : Fin 4) (S : Vec Ideal S1x512 .f32) (o : Elt Ideal .f32) (C : Vec Ideal S128x128 .i8)
    (h : Fin 4) (b : Fin 32) (l : Fin 128) :
    amVal n S o C (ix3 h b l)
      = (((((C : IVec S128x128 8) (ix2 l ⟨32 * h.val + b.val, by omega⟩)).signExtend 32).toInt : ℝ) : EReal)
          * (S (ix2 0 ⟨128 * n.val + l.val, by omega⟩) : EReal) + (o : EReal) := by
  unfold amVal
  pointwise
  have e : (⟨h.val * 32 + b.val, by omega⟩ : Fin 128) = ⟨32 * h.val + b.val, by omega⟩ :=
    Fin.ext (by show h.val * 32 + b.val = 32 * h.val + b.val; omega)
  rw [e]
  rfl

end Cert.KernelIdeal.Hand

end
-- ==== Proof.Value.Block.lean ====
/- Over the extended reals: the tile a grid point stores, at an index, as the low-rank product plus one
   sum over the columns of `x`. -/
module

public import proofs.«01_k».proof.Proof.Value.Tile

@[expose] public section

noncomputable section

namespace Cert.KernelIdeal.Hand

open Idealize.ShloMosaic Idealize.SL.Sem
open Cert.KernelIdeal Cert.KernelIdeal.Gen

/-! ## The scales of all outputs -/

/-- The scale of output `o`, block `b`: code times scale plus offset. -/
def scaleAt (S : Vec Ideal S1x512 .f32) (z : Elt Ideal .f32) (C : Vec Ideal S512x256 .i8) (o : Fin 512) (b : Fin 256) : EReal :=
  (((((C : IVec S512x256 8) (ix2 o b)).signExtend 32).toInt : ℝ) : EReal) * (S (ix2 0 o) : EReal) + (z : EReal)

theorem amPieces_form (S : Vec Ideal S1x512 .f32) (z : Elt Ideal .f32) (C : Vec Ideal S512x256 .i8)
    (p : View.Piece (Elt Ideal) S8x32x512 .f32) (hp : p ∈ amPieces S z C) : ∃ h n, p = amPiece S z C h n := by
  unfold amPieces at hp
  simp only [List.mem_cons, List.not_mem_nil, or_false] at hp
  rcases hp with h | h | h | h | h | h | h | h <;> exact ⟨_, _, h⟩

/-- Block `32 k + b`, output `o` of the scales. -/
theorem amOf_apply (S : Vec Ideal S1x512 .f32) (z : Elt Ideal .f32) (C : Vec Ideal S512x256 .i8)
    (k : Fin 8) (b : Fin 32) (o : Fin 512) :
    amOf S z C (ix3 k b o) = scaleAt S z C o ⟨32 * k.val + b.val, by omega⟩ := by
  refine View.canon_apply_of_pieces (Val := Elt Ideal) (e := .f32)
    (fun y : S8x32x512.Idx => scaleAt S z C (y 2) ⟨32 * (y 0).val + (y 1).val, by
      have h0 : (y 0).val < 8 := (y 0).isLt
      have h1 : (y 1).val < 32 := (y 1).isLt
      omega⟩) _ ?_ _ (am_covers S z C _)
  intro q hq x
  obtain ⟨h, n, rfl⟩ := amPieces_form S z C q hq
  have key : ∀ (h' : Fin 4) (b' : Fin 32) (l : Fin 128), (amPiece S z C h n).2 (ix3 h' b' l)
      = scaleAt S z C ⟨128 * n.val + l.val, by omega⟩ ⟨32 * (4 * h.val + h'.val) + b'.val, by omega⟩ := by
    intro h' b' l
    refine (amVal_apply n S z _ h' b' l).trans ?_
    unfold scaleAt
    have e : (Rect.unit (s := S512x256) ![128 * n.val, 128 * h.val] S128x128.size (cd_inb h n)).emb
          (ix2 l ⟨32 * h'.val + b'.val, by omega⟩)
        = (ix2 ⟨128 * n.val + l.val, by omega⟩ ⟨32 * (4 * h.val + h'.val) + b'.val, by omega⟩ : S512x256.Idx) := by
      funext a
      match a with
      | 0 => exact Fin.ext (by show 128 * n.val + 1 * l.val = 128 * n.val + l.val; omega)
      | 1 => exact Fin.ext (by show 128 * h.val + 1 * (32 * h'.val + b'.val) = 32 * (4 * h.val + h'.val) + b'.val; omega)
    show (((BitVec.signExtend 32 ((C : IVec S512x256 8) ((Rect.unit (s := S512x256) ![128 * n.val, 128 * h.val] S128x128.size (cd_inb h n)).emb
          (ix2 l ⟨32 * h'.val + b'.val, by omega⟩)))).toInt : ℝ) : EReal) * _ + _ = _
    rw [e]
  have hx : x = (ix3 (x 0) (x 1) (x 2) : S4x32x128.Idx) := eq_ix3 (n0 := 4) (n1 := 32) (n2 := 128) x
  have h0 : (x 0).val < 4 := (x 0).isLt
  have h1 : (x 1).val < 32 := (x 1).isLt
  have h2 : (x 2).val < 128 := (x 2).isLt
  rw [hx]
  refine (key (x 0) (x 1) (x 2)).trans ?_
  refine congrArg₂ (scaleAt S z C) ?_ ?_
  · exact Fin.ext (by show 128 * n.val + (x 2).val = 128 * n.val + 1 * (x 2).val; omega)
  · exact Fin.ext (by
      show 32 * (4 * h.val + (x 0).val) + (x 1).val = 32 * (4 * h.val + 1 * (x 0).val) + (0 + 1 * (x 1).val); omega)

theorem offOf_eq (O : Vec Ideal S1 .f32) : offOf O = O (ix1 0) := by
  unfold offOf
  refine congrArg O ?_
  funext a
  match a with
  | 0 => exact Subsingleton.elim (α := Fin 1) _ _

/-! ## The accumulator -/

theorem pay2177_apply (x : Vec Ideal S128x2048 .bf16) (w : Vec Ideal S2048x512 .bf16) (a : Vec Ideal S128x512 .f32)
    (s : Fin 128) (o : Fin 512) :
    k0_pay2177 (F := Ideal) x w a (ix2 s o)
      = (a (ix2 s o) : EReal) + ∑ i : Fin 2048, (x (ix2 s i) : EReal) * (w (ix2 i o) : EReal) := by
  unfold k0_pay2177
  pointwise

/-- Column `i` of chunk `k` of the reordered `x`. -/
theorem chunk_col (X : Vec Ideal S128x16384 .bf16) (k : Fin k0_t2_loop.trips) (s : Fin 128) (i : Fin 2048) :
    View.ld (Val := Elt Ideal) (xpOf X) (chunkRect k) (ix2 s i) = X (ix2 s (chunkCol k i)) := by
  have hk := k_lt k
  have e : (chunkRect k).emb (ix2 s i) = (ix2 s ⟨2048 * k.val + i.val, by omega⟩ : S128x16384.Idx) := by
    have ho : k0_off134 k = ![0, 2048 * k.val] := k0_off134_eq k
    funext a
    match a with
    | 0 => exact Fin.ext (by show k0_off134 k 0 + 1 * s.val = s.val; rw [ho]; show 0 + 1 * s.val = _; omega)
    | 1 => exact Fin.ext (by
        show k0_off134 k 1 + 1 * i.val = 2048 * k.val + i.val; rw [ho]; show 2048 * k.val + 1 * i.val = _; omega)
  show xpOf X ((chunkRect k).emb (ix2 s i)) = _
  rw [e, xpOf_apply]

/-- One product of the decoded weights with `x`: weight `q` of output `o` times `x` at row `s`. -/
def term (X : Vec Ideal S128x16384 .bf16) (W : Vec Ideal S512x8192 .i8) (S : Vec Ideal S1x512 .f32) (z : Elt Ideal .f32)
    (C : Vec Ideal S512x256 .i8) (s : Fin 128) (o : Fin 512) (q : Fin 16384) : EReal :=
  (X (ix2 s q) : EReal) * (rawVal (fun j => (W : IVec S512x8192 8) (ix2 o j)) q * scaleAt S z C o ⟨q.val / 64, by omega⟩)

theorem chunkCol_block (k : Fin k0_t2_loop.trips) (i : Fin 2048) : (chunkCol k i).val / 64 = 32 * k.val + i.val / 64 := by
  have := rowOrder_lt ((2048 * k.val + i.val) % 64) (by omega)
  show srcCol (2048 * k.val + i.val) / 64 = _
  unfold srcCol; omega

/-- What chunk `k` adds. -/
theorem chunk_sum (X : Vec Ideal S128x16384 .bf16) (W : Vec Ideal S512x8192 .i8) (S : Vec Ideal S1x512 .f32) (z : Elt Ideal .f32)
    (C : Vec Ideal S512x256 .i8) (a : Vec Ideal S128x512 .f32) (k : Fin k0_t2_loop.trips) (s : Fin 128) (o : Fin 512) :
    k0_pay2177 (F := Ideal) (View.ld (Val := Elt Ideal) (xpOf X) (chunkRect k)) (wdOf W (amOf S z C) k) a (ix2 s o)
      = (a (ix2 s o) : EReal) + ∑ i : Fin 2048, term X W S z C s o (chunkCol k i) := by
  rw [pay2177_apply]
  refine congrArg₂ (· + ·) rfl (Finset.sum_congr rfl fun i _ => ?_)
  rw [chunk_col, wdOf_apply, amOf_apply]
  unfold term
  refine congrArg₂ (· * ·) rfl (congrArg₂ (· * ·) rfl (congrArg _ (Fin.ext ?_)))
  exact (chunkCol_block k i).symm

/-- The accumulator after `n` chunks. -/
theorem accOf_apply (X : Vec Ideal S128x16384 .bf16) (W : Vec Ideal S512x8192 .i8) (S : Vec Ideal S1x512 .f32) (z : Elt Ideal .f32)
    (C : Vec Ideal S512x256 .i8) (a : Vec Ideal S128x512 .f32) (s : Fin 128) (o : Fin 512) (n : ℕ) (hn : n ≤ k0_t2_loop.trips) :
    accOf (xpOf X) W (amOf S z C) a n (ix2 s o)
      = (a (ix2 s o) : EReal) + ∑ k : Fin n, ∑ i : Fin 2048, term X W S z C s o (chunkCol ⟨k.val, Nat.lt_of_lt_of_le k.isLt hn⟩ i) := by
  induction n with
  | zero => rw [Fin.sum_univ_zero, add_zero]; rfl
  | succ n ih =>
    refine Eq.trans ?_ (congrArg (fun v : EReal => (a (ix2 s o) : EReal) + v) (Fin.sum_univ_castSucc _).symm)
    unfold accOf
    rw [dif_pos (Nat.lt_of_succ_le hn), chunk_sum, ih (Nat.le_of_succ_le hn), add_assoc]
    rfl

/-! ## The columns in order -/

theorem srcCol_inj (p q : ℕ) (h : srcCol p = srcCol q) : p = q := by
  have hp := rowOrder_lt (p % 64) (by omega)
  have hq := rowOrder_lt (q % 64) (by omega)
  unfold srcCol at h
  have hb : p / 64 = q / 64 := by omega
  have hr : rowOrder (p % 64) = rowOrder (q % 64) := by omega
  have inj : ∀ a b : Fin 64, rowOrder a.val = rowOrder b.val → a = b := by decide +kernel
  have := congrArg Fin.val (inj ⟨p % 64, by omega⟩ ⟨q % 64, by omega⟩ hr)
  have : p % 64 = q % 64 := this
  omega

/-- The order the kernel takes the columns of `x` in. -/
def colOrder : Fin 16384 ≃ Fin 16384 :=
  Equiv.ofBijective (fun p => ⟨srcCol p.val, srcCol_lt _ p.isLt⟩)
    (Finite.injective_iff_bijective.mp fun p q h => Fin.ext (srcCol_inj _ _ (congrArg Fin.val h)))

/-- A sum over all chunks and their columns is the sum over all columns. -/
theorem sum_chunks (f : Fin 16384 → EReal) (hn : k0_t2_loop.trips ≤ k0_t2_loop.trips) :
    (∑ k : Fin k0_t2_loop.trips, ∑ i : Fin 2048, f (chunkCol ⟨k.val, Nat.lt_of_lt_of_le k.isLt hn⟩ i)) = ∑ q, f q := by
  rw [← Equiv.sum_comp colOrder f, ← Fintype.sum_prod_type' (f := fun (k : Fin k0_t2_loop.trips) (i : Fin 2048) => f (chunkCol ⟨k.val, Nat.lt_of_lt_of_le k.isLt hn⟩ i))]
  have e : k0_t2_loop.trips * 2048 = 16384 := by rw [t2_trips]
  refine Fintype.sum_equiv (finProdFinEquiv.trans (finCongr e)) _ _ ?_
  rintro ⟨k, i⟩
  refine congrArg f (Fin.ext ?_)
  show srcCol (2048 * k.val + i.val) = srcCol (i.val + 2048 * k.val)
  rw [Nat.add_comm]

/-- Element `(s, o)` of the tile a grid point stores. -/
theorem outOf_apply (X : Vec Ideal S128x16384 .bf16) (La : Vec Ideal S16x16384 .bf16) (O : Vec Ideal S1 .f32) (W : Vec Ideal S512x8192 .i8)
    (C : Vec Ideal S512x256 .i8) (S : Vec Ideal S1x512 .f32) (Lb : Vec Ideal S16x512 .bf16) (s : Fin 128) (o : Fin 512) :
    outOf (xpOf X) (lowOf X La) O W C S Lb (ix2 s o)
      = (∑ r : Fin 16, ((∑ k : Fin 16384, (X (ix2 s k) : EReal) * (La (ix2 r k) : EReal)) * 2) * (Lb (ix2 r o) : EReal))
        + ∑ q : Fin 16384, term X W S (O (ix1 0)) C s o q := by
  show accOf (xpOf X) W (amOf S (offOf O) C) (k0_pay2167 (lowOf X La) Lb) k0_t2_loop.trips (ix2 s o) = _
  rw [accOf_apply _ _ _ _ _ _ _ _ _ le_rfl, sum_chunks _ le_rfl, pay2167_apply, offOf_eq]
  refine congrArg₂ (· + ·) (Finset.sum_congr rfl fun r _ => ?_) rfl
  rw [lowOf_apply]

end Cert.KernelIdeal.Hand

end
-- ==== Proof.Value.Spec.lean ====
/- The result both programs are shown to hold, element by element, as a function of the arguments. -/
module

public import proofs.«01_k».proof.Proof.Value.Block

@[expose] public section

noncomputable section

namespace Cert.KernelIdeal.Hand

open Idealize.ShloMosaic Idealize.SL.Sem
open Cert.KernelIdeal Cert.KernelIdeal.Gen

/-- Weight `q` of output `o`, decoded and scaled: its table value times (block code × output scale + offset). -/
def weightAt (W : Fin 13312 → Fin 8192 → BitVec 8) (C : Fin 13312 → Fin 256 → BitVec 8) (S : Fin 13312 → EReal) (z : EReal)
    (o : Fin 13312) (q : Fin 16384) : EReal :=
  rawVal (W o) q * ((((C o ⟨q.val / 64, by omega⟩).signExtend 32).toInt : ℝ) * S o + z)

/-- Element `(s, o)` of the result: the low-rank product, doubled, plus `x` times the decoded weights. -/
def resultAt (X : Fin 128 → Fin 16384 → EReal) (W : Fin 13312 → Fin 8192 → BitVec 8) (C : Fin 13312 → Fin 256 → BitVec 8)
    (S : Fin 13312 → EReal) (z : EReal) (La : Fin 16 → Fin 16384 → EReal) (Lb : Fin 13312 → Fin 16 → EReal)
    (s : Fin 128) (o : Fin 13312) : EReal :=
  (∑ r : Fin 16, ((∑ k : Fin 16384, X s k * La r k) * 2) * Lb o r) + ∑ q : Fin 16384, X s q * weightAt W C S z o q

end Cert.KernelIdeal.Hand

end
-- ==== Proof.Value.Array.lean ====
/- Over the extended reals: the kernel's result array after the whole run. Each block it reads is a block of
   an argument, each tile it stores is that block of `resultAt`, the tiles cover the result, and the reshape
   after the kernel keeps every element. -/
module

public import proofs.«01_k».proof.Proof.Value.Spec
public import proofs.«01_k».proof.Proof.KernelIdeal.Run
public import Idealize.ShloMosaic.Lib.Pipeline.Value
public import Idealize.ShloMosaic.Lib.StableHlo.Run
public import Idealize.ShloMosaic.Lib.Pointwise

@[expose] public section

noncomputable section

namespace Cert.KernelIdeal.Hand

open Idealize.ShloMosaic Idealize.ShloMosaic.TcCoe Idealize.SL.Sem Idealize.ShloMosaic.Tactic
open Idealize.ShloMosaic.Pipeline (Dat)
open Cert.KernelIdeal Cert.KernelIdeal.Gen

variable (m : (ℓ : Loc nD τ sig) → Buf (Elt Ideal) ℓ) (c : Dev nD)

/-! ## The arguments -/

def argX : Vec Ideal S1x128x16384 .bf16 := m ((c : Thread nD τ).loc main_arg0)
def argW : IVec S13312x8192 8 := m ((c : Thread nD τ).loc main_arg1)
def argC : IVec S13312x256 8 := m ((c : Thread nD τ).loc main_arg2)
def argS : Vec Ideal S13312 .f32 := m ((c : Thread nD τ).loc main_arg3)
def argZ : Vec Ideal S_ .f32 := m ((c : Thread nD τ).loc main_arg4)
def argA : Vec Ideal S16x16384 .bf16 := m ((c : Thread nD τ).loc main_arg5)
def argB : Vec Ideal S13312x16 .bf16 := m ((c : Thread nD τ).loc main_arg6)

/-- The result, element by element, of the arguments in memory `m`. -/
def specAt (s : Fin 128) (o : Fin 13312) : EReal :=
  resultAt (fun s q => argX m c (ix3 0 s q)) (fun o j => argW m c (ix2 o j)) (fun o b => argC m c (ix2 o b))
    (fun o => argS m c (ix1 o)) (argZ m c ix0) (fun r k => argA m c (ix2 r k)) (fun o r => argB m c (ix2 o r)) s o

/-! ## What the host lines before the kernel leave -/

theorem v0_at : (V m c main_v0 : Vec Ideal S1 .f32) (ix1 0) = argZ m c ix0 := by
  have e : V m c main_v0 = shapeCast S1 (argZ m c) shapeCasts_S_S1 := by
    unfold V V0 argZ
    simp only [hostOps0, List.flatten_cons, List.flatten_nil, List.append_nil]
    after_results
    rfl
  rw [e]; pointwise

theorem v1_at (s : Fin 128) (q : Fin 16384) : (V m c main_v1 : Vec Ideal S128x16384 .bf16) (ix2 s q) = argX m c (ix3 0 s q) := by
  have e : V m c main_v1 = shapeCast S128x16384 (argX m c) shapeCasts_S1x128x16384_S128x16384 := by
    unfold V V0 argX
    simp only [hostOps0, List.flatten_cons, List.flatten_nil, List.append_nil]
    after_results
    rfl
  rw [e]; pointwise

theorem v2_at (o : Fin 13312) : (V m c main_v2 : Vec Ideal S1x13312 .f32) (ix2 0 o) = argS m c (ix1 o) := by
  have e : V m c main_v2 = shapeCast S1x13312 (argS m c) shapeCasts_S13312_S1x13312 := by
    unfold V V0 argS
    simp only [hostOps0, List.flatten_cons, List.flatten_nil, List.append_nil]
    after_results
    rfl
  rw [e]; pointwise

theorem v3_at (r : Fin 16) (o : Fin 13312) : (V m c main_v3 : Vec Ideal S16x13312 .bf16) (ix2 r o) = argB m c (ix2 o r) := by
  have e : V m c main_v3 = transpose S16x13312 [1, 0] (argB m c) transposes_S13312x16_S16x13312_1_0 := by
    unfold V V0 argB
    simp only [hostOps0, List.flatten_cons, List.flatten_nil, List.append_nil]
    after_results
  rw [e]; pointwise

/-! ## The blocks -/

theorem lane_lt (t : Fin cfg0.N) (l : Fin 512) : 512 * t.val + l.val < 13312 := by
  have : t.val < 26 := t.isLt
  omega

theorem idx_whole0 : ∀ t : Fin grid0.N, win0_0.index t 0 = 0 := by decide +kernel
theorem idx_whole1 : ∀ t : Fin grid0.N, win0_1.index t 0 = 0 ∧ win0_1.index t 1 = 0 := by decide +kernel
theorem idx_2 : ∀ t : Fin grid0.N, win0_2.index t 0 = t.val ∧ win0_2.index t 1 = 0 := by decide +kernel
theorem idx_3 : ∀ t : Fin grid0.N, win0_3.index t 0 = t.val ∧ win0_3.index t 1 = 0 := by decide +kernel
theorem idx_4 : ∀ t : Fin grid0.N, win0_4.index t 0 = 0 ∧ win0_4.index t 1 = t.val := by decide +kernel
theorem idx_whole5 : ∀ t : Fin grid0.N, win0_5.index t 0 = 0 ∧ win0_5.index t 1 = 0 := by decide +kernel
theorem idx_6 : ∀ t : Fin grid0.N, win0_6.index t 0 = 0 ∧ win0_6.index t 1 = t.val := by decide +kernel
theorem idx_7 : ∀ t : Fin grid0.N, win0_7.index t 0 = 0 ∧ win0_7.index t 1 = t.val := by decide +kernel

theorem blk0 (t : Fin cfg0.N) : (iblk m c 0 t : Vec Ideal S1 .f32) (ix1 0) = argZ m c ix0 := by
  refine Eq.trans ?_ (v0_at m c)
  refine congrArg (V m c main_v0 : Vec Ideal S1 .f32) (funext fun a => ?_)
  match a with
  | 0 => exact Fin.ext (by show win0_0.index t 0 * 1 + 1 * 0 = 0; rw [idx_whole0 t])

theorem blk1 (t : Fin cfg0.N) (s : Fin 128) (q : Fin 16384) :
    (iblk m c 1 t : Vec Ideal S128x16384 .bf16) (ix2 s q) = argX m c (ix3 0 s q) := by
  refine Eq.trans ?_ (v1_at m c s q)
  refine congrArg (V m c main_v1 : Vec Ideal S128x16384 .bf16) (funext fun a => ?_)
  match a with
  | 0 => exact Fin.ext (by show win0_1.index t 0 * 128 + 1 * s.val = s.val; rw [(idx_whole1 t).1]; omega)
  | 1 => exact Fin.ext (by show win0_1.index t 1 * 16384 + 1 * q.val = q.val; rw [(idx_whole1 t).2]; omega)

theorem blk2 (t : Fin cfg0.N) (l : Fin 512) (j : Fin 8192) :
    (iblk m c 2 t : IVec S512x8192 8) (ix2 l j) = argW m c (ix2 ⟨512 * t.val + l.val, lane_lt t l⟩ j) := by
  refine Eq.trans ?_ (congrFun (V_main_arg1 m c) _)
  refine congrArg (V m c main_arg1 : IVec S13312x8192 8) (funext fun a => ?_)
  match a with
  | 0 => exact Fin.ext (by show win0_2.index t 0 * 512 + 1 * l.val = 512 * t.val + l.val; rw [(idx_2 t).1]; omega)
  | 1 => exact Fin.ext (by show win0_2.index t 1 * 8192 + 1 * j.val = j.val; rw [(idx_2 t).2]; omega)

theorem blk3 (t : Fin cfg0.N) (l : Fin 512) (j : Fin 256) :
    (iblk m c 3 t : IVec S512x256 8) (ix2 l j) = argC m c (ix2 ⟨512 * t.val + l.val, lane_lt t l⟩ j) := by
  refine Eq.trans ?_ (congrFun (V_main_arg2 m c) _)
  refine congrArg (V m c main_arg2 : IVec S13312x256 8) (funext fun a => ?_)
  match a with
  | 0 => exact Fin.ext (by show win0_3.index t 0 * 512 + 1 * l.val = 512 * t.val + l.val; rw [(idx_3 t).1]; omega)
  | 1 => exact Fin.ext (by show win0_3.index t 1 * 256 + 1 * j.val = j.val; rw [(idx_3 t).2]; omega)

theorem blk4 (t : Fin cfg0.N) (l : Fin 512) :
    (iblk m c 4 t : Vec Ideal S1x512 .f32) (ix2 0 l) = argS m c (ix1 ⟨512 * t.val + l.val, lane_lt t l⟩) := by
  refine Eq.trans ?_ (v2_at m c _)
  refine congrArg (V m c main_v2 : Vec Ideal S1x13312 .f32) (funext fun a => ?_)
  match a with
  | 0 => exact Fin.ext (by show win0_4.index t 0 * 1 + 1 * 0 = 0; rw [(idx_4 t).1])
  | 1 => exact Fin.ext (by show win0_4.index t 1 * 512 + 1 * l.val = 512 * t.val + l.val; rw [(idx_4 t).2]; omega)

theorem blk5 (t : Fin cfg0.N) (r : Fin 16) (k : Fin 16384) :
    (iblk m c 5 t : Vec Ideal S16x16384 .bf16) (ix2 r k) = argA m c (ix2 r k) := by
  refine Eq.trans ?_ (congrFun (V_main_arg5 m c) _)
  refine congrArg (V m c main_arg5 : Vec Ideal S16x16384 .bf16) (funext fun a => ?_)
  match a with
  | 0 => exact Fin.ext (by show win0_5.index t 0 * 16 + 1 * r.val = r.val; rw [(idx_whole5 t).1]; omega)
  | 1 => exact Fin.ext (by show win0_5.index t 1 * 16384 + 1 * k.val = k.val; rw [(idx_whole5 t).2]; omega)

theorem blk6 (t : Fin cfg0.N) (r : Fin 16) (l : Fin 512) :
    (iblk m c 6 t : Vec Ideal S16x512 .bf16) (ix2 r l) = argB m c (ix2 ⟨512 * t.val + l.val, lane_lt t l⟩ r) := by
  refine Eq.trans ?_ (v3_at m c _ _)
  refine congrArg (V m c main_v3 : Vec Ideal S16x13312 .bf16) (funext fun a => ?_)
  match a with
  | 0 => exact Fin.ext (by show win0_6.index t 0 * 16 + 1 * r.val = r.val; rw [(idx_6 t).1]; omega)
  | 1 => exact Fin.ext (by show win0_6.index t 1 * 512 + 1 * l.val = 512 * t.val + l.val; rw [(idx_6 t).2]; omega)

/-- Element `(s, l)` of the tile point `t` stores is element `(s, 512 t + l)` of the result. -/
theorem outAt_apply (t : Fin cfg0.N) (s : Fin 128) (l : Fin 512) :
    outAt m c t (ix2 s l) = specAt m c s ⟨512 * t.val + l.val, lane_lt t l⟩ := by
  unfold outAt xpAll lowAll
  rw [outOf_apply]
  unfold specAt resultAt
  refine congrArg₂ (· + ·) (Finset.sum_congr rfl fun r _ => ?_) (Finset.sum_congr rfl fun q _ => ?_)
  · refine congrArg₂ (· * ·) (congrArg (· * (2 : EReal)) (Finset.sum_congr rfl fun k _ => ?_)) (blk6 m c t r l)
    exact congrArg₂ (· * ·) (blk1 m c t0 s k) (blk5 m c t0 r k)
  · unfold term weightAt scaleAt
    rw [blk1, blk0, blk3, blk4]
    refine congrArg₂ (· * ·) rfl (congrArg₂ (· * ·) (congrArg (rawVal · q) (funext fun j => blk2 m c t l j)) rfl)

/-! ## The result array -/

/-- The kernel's result array. -/
def outArr : Vec Ideal S128x13312 .bf16 := fun y => specAt m c (y 0) (y 1)

theorem flushed_eq (t : Fin cfg0.N) :
    (dats m 0 c).flushed 7 t = (win0_7.blk t).view.read (Elt Ideal) (outArr m c) := by
  show (cfg0.win 7).cut (grid0.coords t) (outAt m c t) = _
  have key : ∀ (s : Fin 128) (l : Fin 512), outAt m c t (ix2 s l) = (win0_7.blk t).view.read (Elt Ideal) (outArr m c) (ix2 s l) := by
    intro s l
    rw [outAt_apply]
    refine congrArg₂ (specAt m c) ?_ ?_
    · exact Fin.ext (by show s.val = win0_7.index t 0 * 128 + 1 * s.val; rw [(idx_7 t).1]; omega)
    · exact Fin.ext (by show 512 * t.val + l.val = win0_7.index t 1 * 512 + 1 * l.val; rw [(idx_7 t).2]; omega)
  funext x
  have hx := eq_ix2 (n0 := 128) (n1 := 512) x
  rw [hx]
  exact key (x 0) (x 1)

theorem cover (i : S128x13312.Idx) :
    ∃ t : Fin cfg0.N, (cfg0.win 7).flush t = true ∧ i ∈ ((cfg0.win 7).blk t).view.set := by
  have h0 : (i 0).val < 128 := (i 0).isLt
  have h1 : (i 1).val < 13312 := (i 1).isLt
  let t : Fin cfg0.N := ⟨(i 1).val / 512, by show (i 1).val / 512 < 26; omega⟩
  refine ⟨t, flush0_7 _, ?_⟩
  show i ∈ ((View.whole main_v4).slice (win0_7.rect t)).set
  rw [View.set_slice_whole, Rect.mem_set_unit]
  intro a
  match a with
  | 0 =>
    show win0_7.index t 0 * 128 ≤ (i 0).val ∧ (i 0).val < win0_7.index t 0 * 128 + 128
    rw [(idx_7 t).1]; omega
  | 1 =>
    show win0_7.index t 1 * 512 ≤ (i 1).val ∧ (i 1).val < win0_7.index t 1 * 512 + 512
    rw [(idx_7 t).2]; show (i 1).val / 512 * 512 ≤ _ ∧ _ < (i 1).val / 512 * 512 + 512; omega

theorem arr_eq : (dats m 0 c).arrAt 7 cfg0.N = outArr m c :=
  (dats m 0 c).arrAt_eq_of_cover 7 (outArr m c) (fun t _ => flushed_eq m c t) (cover)

/-- The program's result. -/
def result : Vec Ideal S1x128x13312 .bf16 := fun y => specAt m c (y 1) (y 2)

theorem tail_eq : Pipeline.afterTail₀ cfgs (dats m) 0 (V0 m) [hostOps1] c main_v5 = result m c := by
  have e : Pipeline.afterTail₀ cfgs (dats m) 0 (V0 m) [hostOps1] c main_v5
      = shapeCast S1x128x13312 (outArr m c) shapeCasts_S128x13312_S1x128x13312 := by
    unfold Pipeline.afterTail₀
    simp only [hostOps1, List.flatten_cons, List.flatten_nil, List.append_nil]
    after_results
    have h := Pipeline.withArrays_arr spec0 (by decide) c (V0 m c) (fun w => (dats m 0 c).arrAt w cfg0.N) 7
    refine Eq.trans ?_ (congrArg (fun v : Vec Ideal S128x13312 .bf16 => shapeCast S1x128x13312 v shapeCasts_S128x13312_S1x128x13312)
      (h.trans (arr_eq m c)))
    rfl
  rw [e]
  funext y
  have hy : y = ix3 (n0 := 1) (n1 := 128) (n2 := 13312) (y 0) (y 1) (y 2) := eq_ix3 (n0 := 1) (n1 := 128) (n2 := 13312) y
  rw [hy]
  show shapeCast S1x128x13312 (outArr m c) shapeCasts_S128x13312_S1x128x13312 (ix3 (n0 := 1) (n1 := 128) (n2 := 13312) (y 0) (y 1) (y 2)) = specAt m c (y 1) (y 2)
  generalize y 0 = a, y 1 = s, y 2 = o
  pointwise
  rfl

/-- The run: the result holds `result` of the arguments, and the arguments end unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).2 main_v5 (Pipeline.mem_restRefs_of main_v5 (by decide) (by decide))).trans (tail_eq m c),
      (((h.1 c).2 main_arg0 (Pipeline.mem_restRefs_of main_arg0 (by decide) (by decide))).trans (W_main_arg0 m (dats m) c)),
      ((h.1 c).1 2).trans (((dats m 0 c).arrAt_in 2 rfl _).trans (V_main_arg1 m c)),
      ((h.1 c).1 3).trans (((dats m 0 c).arrAt_in 3 rfl _).trans (V_main_arg2 m c)),
      (((h.1 c).2 main_arg3 (Pipeline.mem_restRefs_of main_arg3 (by decide) (by decide))).trans (W_main_arg3 m (dats m) c)),
      (((h.1 c).2 main_arg4 (Pipeline.mem_restRefs_of main_arg4 (by decide) (by decide))).trans (W_main_arg4 m (dats m) c)),
      ((h.1 c).1 5).trans (((dats m 0 c).arrAt_in 5 rfl _).trans (V_main_arg5 m c)),
      (((h.1 c).2 main_arg6 (Pipeline.mem_restRefs_of main_arg6 (by decide) (by decide))).trans (W_main_arg6 m (dats m) c))⟩)
    (run_main m ρ)

end Cert.KernelIdeal.Hand

end
-- ==== Proof.Value.Reference.lean ====
/- Over the extended reals: the reference's result, element by element. Its tree of selects gives each
   nibble the value the kernel's table holds, and its sums over even and over odd weights are together the
   sum over all weights. -/
module

public import proofs.«01_k».proof.Proof.Gen.ReferenceIdeal.Run
public import proofs.«01_k».proof.Proof.Value.Spec
public import Idealize.ShloMosaic.Lib.Pointwise

@[expose] public section

noncomputable section

namespace Cert.ReferenceIdeal.Hand

open Idealize.ShloMosaic Idealize.ShloMosaic.TcCoe Idealize.SL.Sem
open Cert.ReferenceIdeal Cert.ReferenceIdeal.Gen Cert.ReferenceIdeal.Value
open Cert.KernelIdeal.Hand (codeWord codeVal nibbleOf rawVal weightAt resultAt)

/-! ## The tree of selects -/

/-- Bit `i` of `n`, tested. -/
def bitTest (n i : BitVec 32) : BitVec 1 :=
  IntOp.cmpi .eq (IntOp.andi (IntOp.shrsi .host n i) 1#32) 1#32

/-- A tree of selects on the four low bits of a nibble. -/
def tree {α : Type} (leaf : Fin 16 → α) (n : BitVec 32) : α :=
  Scalar.select (bitTest n 3#32)
    (Scalar.select (bitTest n 2#32)
      (Scalar.select (bitTest n 1#32) (Scalar.select (bitTest n 0#32) (leaf 0) (leaf 1)) (Scalar.select (bitTest n 0#32) (leaf 2) (leaf 3)))
      (Scalar.select (bitTest n 1#32) (Scalar.select (bitTest n 0#32) (leaf 4) (leaf 5)) (Scalar.select (bitTest n 0#32) (leaf 6) (leaf 7))))
    (Scalar.select (bitTest n 2#32)
      (Scalar.select (bitTest n 1#32) (Scalar.select (bitTest n 0#32) (leaf 8) (leaf 9)) (Scalar.select (bitTest n 0#32) (leaf 10) (leaf 11)))
      (Scalar.select (bitTest n 1#32) (Scalar.select (bitTest n 0#32) (leaf 12) (leaf 13)) (Scalar.select (bitTest n 0#32) (leaf 14) (leaf 15))))

/-- The words at the leaves, first for the nibble with all bits set. -/
def leafWord : Fin 16 → BitVec 16 :=
  ![0x3F80#16, 0x3F39#16, 0x3F10#16, 0x3EE2#16, 0x3EAD#16, 0x3E7C#16, 0x3E25#16, 0x3DA3#16,
    0x0000#16, 0xBDBA#16, 0xBE3D#16, 0xBE92#16, 0xBECA#16, 0xBF06#16, 0xBF32#16, 0xBF80#16]

theorem select_map {α β : Type} (f : α → β) (b : BitVec 1) (x y : α) :
    Scalar.select b (f x) (f y) = f (Scalar.select b x y) := by
  unfold Scalar.select; split <;> rfl

theorem tree_map {α β : Type} (f : α → β) (leaf : Fin 16 → α) (n : BitVec 32) :
    tree (fun k => f (leaf k)) n = f (tree leaf n) := by
  unfold tree; simp only [select_map]

/-- The high nibble of a byte, as the reference extracts it. -/
def hiNib (b : BitVec 8) : BitVec 32 := IntOp.andi (IntOp.shrsi .host (b.setWidth 32) 4#32) 15#32
/-- The low nibble of a byte, as the reference extracts it. -/
def loNib (b : BitVec 8) : BitVec 32 := IntOp.andi (b.setWidth 32) 15#32

set_option maxRecDepth 100000 in
theorem hi_words : ∀ i : Fin 256, tree leafWord (hiNib (BitVec.ofNat 8 i.val)) = codeWord (nibbleOf True (BitVec.ofNat 8 i.val)) := by
  decide +kernel
set_option maxRecDepth 100000 in
theorem lo_words : ∀ i : Fin 256, tree leafWord (loNib (BitVec.ofNat 8 i.val)) = codeWord (nibbleOf False (BitVec.ofNat 8 i.val)) := by
  decide +kernel

theorem byte_eq (b : BitVec 8) : BitVec.ofNat 8 (⟨b.toNat, b.isLt⟩ : Fin 256).val = b := by simp

/-- The reference decodes an even weight to its table value. -/
theorem hi_value (byte : Fin 8192 → BitVec 8) (j : Fin 8192) :
    tree (fun k => Ideal.ofBits .bf16 (leafWord k)) (hiNib (byte j)) = rawVal byte ⟨2 * j.val, by omega⟩ := by
  rw [tree_map (Ideal.ofBits .bf16)]
  have h := hi_words ⟨(byte j).toNat, (byte j).isLt⟩
  rw [byte_eq] at h
  rw [h]
  unfold rawVal codeVal
  have e : (⟨2 * j.val / 2, by omega⟩ : Fin 8192) = j := Fin.ext (by show 2 * j.val / 2 = j.val; omega)
  have hp : 2 * j.val % 2 = 0 := by omega
  refine congrArg (fun c => Ideal.ofBits .bf16 (codeWord c)) ?_
  unfold nibbleOf
  simp only [e, hp]

/-- The reference decodes an odd weight to its table value. -/
theorem lo_value (byte : Fin 8192 → BitVec 8) (j : Fin 8192) :
    tree (fun k => Ideal.ofBits .bf16 (leafWord k)) (loNib (byte j)) = rawVal byte ⟨1 + 2 * j.val, by omega⟩ := by
  rw [tree_map (Ideal.ofBits .bf16)]
  have h := lo_words ⟨(byte j).toNat, (byte j).isLt⟩
  rw [byte_eq] at h
  rw [h]
  unfold rawVal codeVal
  have e : (⟨(1 + 2 * j.val) / 2, by omega⟩ : Fin 8192) = j := Fin.ext (by show (1 + 2 * j.val) / 2 = j.val; omega)
  have hp : ¬ (1 + 2 * j.val) % 2 = 0 := by omega
  refine congrArg (fun c => Ideal.ofBits .bf16 (codeWord c)) ?_
  unfold nibbleOf
  simp only [e, hp]

theorem ofBits_one : Ideal.ofBits .bf16 0x3F80#16 = (1 : EReal) := by
  simp [Ideal.ofBits, Ideal.ieee, -EReal.coe_mul]
  try norm_num

theorem ofBits_zero : Ideal.ofBits .bf16 0x0000#16 = (0 : EReal) := by
  simp [Ideal.ofBits, Ideal.ieee, -EReal.coe_mul]

/-! ## The sums -/

/-- A sum over even indices and one over odd indices are the sum over all. -/
theorem sum_even_odd (f : Fin 16384 → EReal) :
    (∑ j : Fin 8192, f ⟨2 * j.val, by omega⟩) + ∑ j : Fin 8192, f ⟨1 + 2 * j.val, by omega⟩ = ∑ q, f q := by
  rw [← Finset.sum_add_distrib]
  have h := Fintype.sum_equiv (finProdFinEquiv (m := 8192) (n := 2)) (fun p : Fin 8192 × Fin 2 => f (finProdFinEquiv (m := 8192) (n := 2) p)) f
    (fun _ => rfl)
  rw [← h, Fintype.sum_prod_type]
  refine Finset.sum_congr rfl fun j _ => ?_
  rw [Fin.sum_univ_two]
  refine congrArg₂ (· + ·) (congrArg f (Fin.ext ?_)) (congrArg f (Fin.ext ?_))
  · show 2 * j.val = 0 + 2 * j.val; omega
  · rfl

/-- Doubling a sum doubles its terms. -/
theorem two_mul_sum {n : ℕ} (f : Fin n → EReal) : (2 : EReal) * ∑ r, f r = ∑ r, 2 * f r := by
  induction n with
  | zero => simp
  | succ n ih =>
    rw [Fin.sum_univ_castSucc, Fin.sum_univ_castSucc, EReal.left_distrib_of_nonneg_of_ne_top (by norm_num) (by decide), ih]

/-! ## The reference's result -/

section value
variable (V : Valuation τ sig (Elt Ideal))

abbrev X : Vec Ideal S1x128x16384 .bf16 := V (Proc.devRef .tc main_arg0)
abbrev W : IVec S13312x8192 8 := V (Proc.devRef .tc main_arg1)
abbrev C : IVec S13312x256 8 := V (Proc.devRef .tc main_arg2)
abbrev S : Vec Ideal S13312 .f32 := V (Proc.devRef .tc main_arg3)
abbrev Z : Vec Ideal S_ .f32 := V (Proc.devRef .tc main_arg4)
abbrev A : Vec Ideal S16x16384 .bf16 := V (Proc.devRef .tc main_arg5)
abbrev B : Vec Ideal S13312x16 .bf16 := V (Proc.devRef .tc main_arg6)

theorem v7_at (o : Fin 13312) (b : Fin 256) :
    (res_main_v7 V : Vec Ideal S13312x256 .bf16) (ix2 o b)
      = ((((C V (ix2 o b)).signExtend 32).toInt : ℝ) : EReal) * (S V (ix1 o) : EReal) + (Z V ix0 : EReal) := by
  unfold res_main_v7
  pointwise
  rfl

theorem v12_at (o : Fin 13312) (j : Fin 8192) : (res_main_v12 V : IVec S13312x8192 32) (ix2 o j) = hiNib (W V (ix2 o j)) := rfl
theorem v14_at (o : Fin 13312) (j : Fin 8192) : (res_main_v14 V : IVec S13312x8192 32) (ix2 o j) = loNib (W V (ix2 o j)) := rfl
theorem v20_at (o : Fin 13312) (j : Fin 8192) : (res_main_v20 V : IVec S13312x8192 1) (ix2 o j) = bitTest (hiNib (W V (ix2 o j))) 0#32 := rfl
theorem v26_at (o : Fin 13312) (j : Fin 8192) : (res_main_v26 V : IVec S13312x8192 1) (ix2 o j) = bitTest (hiNib (W V (ix2 o j))) 1#32 := rfl
theorem v32_at (o : Fin 13312) (j : Fin 8192) : (res_main_v32 V : IVec S13312x8192 1) (ix2 o j) = bitTest (hiNib (W V (ix2 o j))) 2#32 := rfl
theorem v64_at (o : Fin 13312) (j : Fin 8192) : (res_main_v64 V : IVec S13312x8192 1) (ix2 o j) = bitTest (loNib (W V (ix2 o j))) 0#32 := rfl
theorem v70_at (o : Fin 13312) (j : Fin 8192) : (res_main_v70 V : IVec S13312x8192 1) (ix2 o j) = bitTest (loNib (W V (ix2 o j))) 1#32 := rfl
theorem v76_at (o : Fin 13312) (j : Fin 8192) : (res_main_v76 V : IVec S13312x8192 1) (ix2 o j) = bitTest (loNib (W V (ix2 o j))) 2#32 := rfl

/-- The decoded weights of the valuation's arguments. -/
abbrev wt (o : Fin 13312) (q : Fin 16384) : EReal :=
  weightAt (fun o j => W V (ix2 o j)) (fun o b => C V (ix2 o b)) (fun o => S V (ix1 o)) (Z V ix0) o q

theorem main_sum (s : Fin 128) (o : Fin 13312) :
    (res_main_v107 V : Vec Ideal S1x128x13312 .f32) (ix3 0 s o)
      = (∑ q : Fin 16384, (X V (ix3 0 s q) : EReal) * wt V o q : EReal) := by
  rw [← sum_even_odd]
  unfold res_main_v107
  pointwise
  refine congrArg₂ (· + ·) (Finset.sum_congr rfl fun j _ => ?_) (Finset.sum_congr rfl fun j _ => ?_)
  · refine congrArg₂ (· * ·) rfl (congrArg₂ (· * ·) (Eq.trans ?_ (hi_value (fun j => W V (ix2 o j)) j)) ((v7_at V o _).trans ?_))
    · rw [v12_at, v20_at, v26_at, v32_at, ← ofBits_one, ← ofBits_zero]
      rfl
    · have e : (⟨j.val / 32, by omega⟩ : Fin 256) = ⟨2 * j.val / 64, by omega⟩ := Fin.ext (by show j.val / 32 = 2 * j.val / 64; omega)
      rw [e]
  · refine congrArg₂ (· * ·) rfl (congrArg₂ (· * ·) (Eq.trans ?_ (lo_value (fun j => W V (ix2 o j)) j)) ((v7_at V o _).trans ?_))
    · rw [v14_at, v64_at, v70_at, v76_at, ← ofBits_one, ← ofBits_zero]
      rfl
    · have e : (⟨j.val / 32, by omega⟩ : Fin 256) = ⟨(1 + 2 * j.val) / 64, by omega⟩ := Fin.ext (by show j.val / 32 = (1 + 2 * j.val) / 64; omega)
      rw [e]

/-- `2`, as the reference writes it. -/
theorem ofBits_two : Ideal.ofBits .f32 0x40000000#32 = (2 : EReal) := by
  simp [Ideal.ofBits, Ideal.ieee, -EReal.coe_mul]
  norm_num
  rfl

/-- The reference's result, as its run states it. -/
def refResult : FVec Ideal S1x128x13312 .bf16 :=
  truncf .bf16 (addf (res_main_v107 (F := Ideal) V : FVec Ideal S1x128x13312 .f32) (mulf (broadcastInDim S1x128x13312 ![] bcast_S_S1x128x13312 (constant S_ .f32 0x40000000#32))
    (Host.dotGeneral (φ₁ := .bf16) (φ₂ := .bf16) dot_S1x128x16_S13312x16_S1x128x13312_2_1_01_0_n_n none
      (truncf .bf16 (Host.dotGeneral (φ₁ := .bf16) (φ₂ := .bf16) dot_S1x128x16384_S16x16384_S1x128x16_2_1_01_0_n_n none (X V : FVec Ideal S1x128x16384 .bf16) (A V : FVec Ideal S16x16384 .bf16)) bitsLt_bf16_f32)
      (B V : FVec Ideal S13312x16 .bf16)))) bitsLt_bf16_f32

/-- The reference's result, element by element. -/
theorem refResult_at (s : Fin 128) (o : Fin 13312) :
    refResult V (ix3 0 s o)
      = resultAt (fun s q => X V (ix3 0 s q)) (fun o j => W V (ix2 o j)) (fun o b => C V (ix2 o b)) (fun o => S V (ix1 o)) (Z V ix0)
          (fun r k => A V (ix2 r k)) (fun o r => B V (ix2 o r)) s o := by
  have e : refResult V (ix3 0 s o)
      = (∑ q : Fin 16384, (X V (ix3 0 s q) : EReal) * wt V o q)
        + (2 : EReal) * ∑ r : Fin 16, (∑ k : Fin 16384, (X V (ix3 0 s k) : EReal) * (A V (ix2 r k) : EReal)) * (B V (ix2 o r) : EReal) := by
    unfold refResult
    pointwise
    rw [ofBits_two]
    exact congrArg₂ (· + ·) (main_sum V s o) rfl
  rw [e, two_mul_sum, add_comm]
  unfold resultAt
  refine congrArg₂ (· + ·) (Finset.sum_congr rfl fun r _ => ?_) rfl
  rw [← mul_assoc, mul_comm (2 : EReal)]

end value

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Array
public import proofs.«01_k».proof.Proof.Value.Reference
public import Idealize.ShloMosaic.Adequacy
public import Idealize.ShloMosaic.Init

@[expose] public section

noncomputable section

namespace Cert.Proof

open Idealize.ShloMosaic Idealize.SL.Sem Cert.Kernel

/-- The kernel, over bit patterns, ends with its arguments unchanged and every semaphore at zero. -/
theorem frame_p : Cert.quiescent_Kernel := fun m ρ _ => Cert.Kernel.Hand.quiet m ρ

/-- The same of the kernel read over the extended reals. -/
theorem frame_pi : Cert.quiescent_KernelIdeal := fun m ρ _ => Cert.KernelIdeal.Hand.quiet m ρ

/-- The reference ends with its arguments unchanged; it declares no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Of equal arguments the reference computes, element by element, what the kernel's result is. -/
theorem reference_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Hand.refResult (StableHlo.launchContents m' c) = Cert.KernelIdeal.Hand.result m c := by
  obtain ⟨h0, h1, h2, h3, h4, h5, h6⟩ := h
  have key : ∀ (s : Fin 128) (o : Fin 13312),
      Cert.ReferenceIdeal.Hand.refResult (StableHlo.launchContents m' c) (ix3 0 s o) = Cert.KernelIdeal.Hand.specAt m c s o := by
    intro s o
    rw [Cert.ReferenceIdeal.Hand.refResult_at]
    unfold Cert.KernelIdeal.Hand.specAt
    have e0 : Cert.ReferenceIdeal.Hand.X (StableHlo.launchContents m' c) = Cert.KernelIdeal.Hand.argX m c := h0
    have e1 : Cert.ReferenceIdeal.Hand.W (StableHlo.launchContents m' c) = Cert.KernelIdeal.Hand.argW m c := h1
    have e2 : Cert.ReferenceIdeal.Hand.C (StableHlo.launchContents m' c) = Cert.KernelIdeal.Hand.argC m c := h2
    have e3 : Cert.ReferenceIdeal.Hand.S (StableHlo.launchContents m' c) = Cert.KernelIdeal.Hand.argS m c := h3
    have e4 : Cert.ReferenceIdeal.Hand.Z (StableHlo.launchContents m' c) = Cert.KernelIdeal.Hand.argZ m c := h4
    have e5 : Cert.ReferenceIdeal.Hand.A (StableHlo.launchContents m' c) = Cert.KernelIdeal.Hand.argA m c := h5
    have e6 : Cert.ReferenceIdeal.Hand.B (StableHlo.launchContents m' c) = Cert.KernelIdeal.Hand.argB m c := h6
    rw [e0, e1, e2, e3, e4, e5, e6]
  funext y
  have hy : y = ix3 (n0 := 1) (n1 := 128) (n2 := 13312) (y 0) (y 1) (y 2) := eq_ix3 (n0 := 1) (n1 := 128) (n2 := 13312) y
  have h00 : y 0 = (0 : Fin 1) := Subsingleton.elim (α := Fin 1) _ _
  rw [hy]
  exact (congrArg (fun a : Fin 1 => Cert.ReferenceIdeal.Hand.refResult (StableHlo.launchContents m' c)
    (ix3 (n0 := 1) (n1 := 128) (n2 := 13312) a (y 1) (y 2))) h00).trans (key (y 1) (y 2))

/-- Over the extended reals the kernel and the reference, started from equal arguments, end with equal results. -/
theorem equal_results : Cert.algebraic_KernelIdeal_ReferenceIdeal := fun m g m' g' _ hargs =>
  ⟨fun c => Cert.KernelIdeal.Hand.result m c, Cert.KernelIdeal.Hand.run_value m g,
    (θ_run Cert.ReferenceIdeal.defs _ _).mono (fun r h c => ⟨(h c).1.trans (reference_eq m m' c (hargs c)), (h c).2⟩)
      (Cert.ReferenceIdeal.Value.run (F := Ideal) m' g')⟩

theorem claim : Cert.Claim :=
  ⟨Cert.Kernel.Gen.facts, Cert.KernelIdeal.Gen.facts, Cert.ReferenceIdeal.Gen.facts,
    frame_p, frame_pi, frame_ri, trivial, equal_results⟩

end Cert.Proof

end
